-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_KernelIdeal_finite_in_range [hPre_finite_in_range : Cert.Pre_finite_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_in_range [hPre_finite_in_range : Cert.Pre_finite_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_in_range [hKernelIdeal : Cert.KernelIdeal.Facts] [hPre_finite_in_range : Cert.Pre_finite_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_in_range [hReferenceIdeal : Cert.ReferenceIdeal.Facts] [hPre_finite_in_range : Cert.Pre_finite_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite_in_range [hKernelIdeal : Cert.KernelIdeal.Facts] [hReferenceIdeal : Cert.ReferenceIdeal.Facts] [hPre_finite_in_range : Cert.Pre_finite_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_in_range : Cert.Pre_in_range.Facts) (hPre_finite_in_range : Cert.Pre_finite_in_range.Facts),
    quiescent_Kernel (hKernel := hKernel) (hPre_in_range := hPre_in_range)
    ∧ quiescent_KernelIdeal (hKernelIdeal := hKernelIdeal) (hPre_in_range := hPre_in_range)
    ∧ quiescent_KernelIdeal_pre_finite_in_range (hKernelIdeal := hKernelIdeal) (hPre_finite_in_range := hPre_finite_in_range)
    ∧ quiescent_ReferenceIdeal (hReferenceIdeal := hReferenceIdeal)
    ∧ quiescent_ReferenceIdeal_pre_finite_in_range (hReferenceIdeal := hReferenceIdeal) (hPre_finite_in_range := hPre_finite_in_range)
    ∧ preserves_Kernel_KernelIdeal
    ∧ algebraic_KernelIdeal_ReferenceIdeal_pre_finite_in_range (hKernelIdeal := hKernelIdeal) (hReferenceIdeal := hReferenceIdeal) (hPre_finite_in_range := hPre_finite_in_range)
-- ==== Pre_finite_in_range.lean ====
abbrev S20 : Shape := ⟨1, ![20]⟩
abbrev S100000x64 : Shape := ⟨2, ![100000, 64]⟩
abbrev S1280x128 : Shape := ⟨2, ![1280, 128]⟩
abbrev S128 : Shape := ⟨1, ![128]⟩
abbrev S128x100000 : Shape := ⟨2, ![128, 100000]⟩
abbrev S100000 : Shape := ⟨1, ![100000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1280x128 : S_.BroadcastsInDim S1280x128 (![] : Fin 0 → Fin S1280x128.rank)
  reducesTo_S1280x128_S_d0_1 : S1280x128.ReducesTo [0, 1] S_
  bcast_S_S128 : S_.BroadcastsInDim S128 (![] : Fin 0 → Fin S128.rank)
  reducesTo_S128_S_d0 : S128.ReducesTo [0] S_
  bcast_S_S128x100000 : S_.BroadcastsInDim S128x100000 (![] : Fin 0 → Fin S128x100000.rank)
  reducesTo_S128x100000_S_d0_1 : S128x100000.ReducesTo [0, 1] S_
  bcast_S_S100000 : S_.BroadcastsInDim S100000 (![] : Fin 0 → Fin S100000.rank)
  reducesTo_S100000_S_d0 : S100000.ReducesTo [0] S_
  bcast_S_S20 : S_.BroadcastsInDim S20 (![] : Fin 0 → Fin S20.rank)
  reducesTo_S20_S_d0 : S20.ReducesTo [0] S_

variable [Facts]

def fn_part1 {F : FTy → Type} [FloatOps F] (main_arg0 : IVec S20 32) (main_arg5 : FVec F S100000 .f32) (main_v3 : IVec S_ 1) (main_v7 : IVec S_ 1) (main_v11 : IVec S_ 1) (main_v15 : IVec S_ 1) : IVec S_ 1 :=
  let main_v16 : FVec F S100000 .f32 := Host.absf main_arg5
  let main_cst_6 : FVec F S_ .f32 := constant S_ .f32 0x7F800000#32
  let main_v17 : FVec F S100000 .f32 := broadcastInDim S100000 ![] bcast_S_S100000 main_cst_6
  let main_v18 : IVec S100000 1 := cmpf .olt main_v16 main_v17
  let main_c_7 : IVec S_ 1 := constantI S_ 1 1#1
  let main_v19 : IVec S_ 1 := (fun x v => Host.reduce IntOp.andi x v reducesTo_S100000_S_d0 h_S_) main_v18 main_c_7
  let main_c_8 : IVec S_ 32 := constantI S_ 32 0#32
  let main_v20 : IVec S20 32 := broadcastInDim S20 ![] bcast_S_S20 main_c_8
  let main_v21 : IVec S20 1 := cmpi .sge main_arg0 main_v20
  let main_c_9 : IVec S_ 32 := constantI S_ 32 100000#32
  let main_v22 : IVec S20 32 := broadcastInDim S20 ![] bcast_S_S20 main_c_9
  let main_v23 : IVec S20 1 := cmpi .slt main_arg0 main_v22
  let main_v24 : IVec S20 1 := andi main_v21 main_v23
  let main_c_10 : IVec S_ 1 := constantI S_ 1 1#1
  let main_v25 : IVec S_ 1 := (fun x v => Host.reduce IntOp.andi x v reducesTo_S20_S_d0 h_S_) main_v24 main_c_10
  let main_v26 : IVec S_ 1 := andi main_v25 main_v3
  let main_v27 : IVec S_ 1 := andi main_v26 main_v7
  let main_v28 : IVec S_ 1 := andi main_v27 main_v11
  let main_v29 : IVec S_ 1 := andi main_v28 main_v15
  let main_v30 : IVec S_ 1 := andi main_v29 main_v19
  main_v30

def fn {F : FTy → Type} [FloatOps F] (main_arg0 : IVec S20 32) (main_arg1 : FVec F S100000x64 .f32) (main_arg2 : FVec F S1280x128 .f32) (main_arg3 : FVec F S128 .f32) (main_arg4 : FVec F S128x100000 .f32) (main_arg5 : FVec F S100000 .f32) : IVec S_ 1 :=
  let main_v0 : FVec F S100000x64 .f32 := Host.absf main_arg1
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1280x128 .f32 := Host.absf main_arg2
  let main_cst_0 : FVec F S_ .f32 := constant S_ .f32 0x7F800000#32
  let main_v5 : FVec F S1280x128 .f32 := broadcastInDim S1280x128 ![] bcast_S_S1280x128 main_cst_0
  let main_v6 : IVec S1280x128 1 := cmpf .olt main_v4 main_v5
  let main_c_1 : IVec S_ 1 := constantI S_ 1 1#1
  let main_v7 : IVec S_ 1 := (fun x v => Host.reduce IntOp.andi x v reducesTo_S1280x128_S_d0_1 h_S_) main_v6 main_c_1
  let main_v8 : FVec F S128 .f32 := Host.absf main_arg3
  let main_cst_2 : FVec F S_ .f32 := constant S_ .f32 0x7F800000#32
  let main_v9 : FVec F S128 .f32 := broadcastInDim S128 ![] bcast_S_S128 main_cst_2
  let main_v10 : IVec S128 1 := cmpf .olt main_v8 main_v9
  let main_c_3 : IVec S_ 1 := constantI S_ 1 1#1
  let main_v11 : IVec S_ 1 := (fun x v => Host.reduce IntOp.andi x v reducesTo_S128_S_d0 h_S_) main_v10 main_c_3
  let main_v12 : FVec F S128x100000 .f32 := Host.absf main_arg4
  let main_cst_4 : FVec F S_ .f32 := constant S_ .f32 0x7F800000#32
  let main_v13 : FVec F S128x100000 .f32 := broadcastInDim S128x100000 ![] bcast_S_S128x100000 main_cst_4
  let main_v14 : IVec S128x100000 1 := cmpf .olt main_v12 main_v13
  let main_c_5 : IVec S_ 1 := constantI S_ 1 1#1
  let main_v15 : IVec S_ 1 := (fun x v => Host.reduce IntOp.andi x v reducesTo_S128x100000_S_d0_1 h_S_) main_v14 main_c_5
  fn_part1 (F := F) main_arg0 main_arg5 main_v3 main_v7 main_v11 main_v15
-- ==== Pre_in_range.lean ====
abbrev S20 : Shape := ⟨1, ![20]⟩
abbrev S100000x64 : Shape := ⟨2, ![100000, 64]⟩
abbrev S1280x128 : Shape := ⟨2, ![1280, 128]⟩
abbrev S128 : Shape := ⟨1, ![128]⟩
abbrev S128x100000 : Shape := ⟨2, ![128, 100000]⟩
abbrev S100000 : Shape := ⟨1, ![100000]⟩
abbrev S_ : Shape := ⟨0, ![]⟩

class Facts : Prop where
  bcast_S_S20 : S_.BroadcastsInDim S20 (![] : Fin 0 → Fin S20.rank)
  reducesTo_S20_S_d0 : S20.ReducesTo [0] S_
  h_S_ : 0 < S_.numel

variable [Facts]

def fn {F : FTy → Type} [FloatOps F] (main_arg0 : IVec S20 32) (main_arg1 : FVec F S100000x64 .f32) (main_arg2 : FVec F S1280x128 .f32) (main_arg3 : FVec F S128 .f32) (main_arg4 : FVec F S128x100000 .f32) (main_arg5 : FVec F S100000 .f32) : IVec S_ 1 :=
  let main_c : IVec S_ 32 := constantI S_ 32 0#32
  let main_v0 : IVec S20 32 := broadcastInDim S20 ![] bcast_S_S20 main_c
  let main_v1 : IVec S20 1 := cmpi .sge main_arg0 main_v0
  let main_c_0 : IVec S_ 32 := constantI S_ 32 100000#32
  let main_v2 : IVec S20 32 := broadcastInDim S20 ![] bcast_S_S20 main_c_0
  let main_v3 : IVec S20 1 := cmpi .slt main_arg0 main_v2
  let main_v4 : IVec S20 1 := andi main_v1 main_v3
  let main_c_1 : IVec S_ 1 := constantI S_ 1 1#1
  let main_v5 : IVec S_ 1 := (fun x v => Host.reduce IntOp.andi x v reducesTo_S20_S_d0 h_S_) main_v4 main_c_1
  main_v5
-- ==== Kernel.lean ====
abbrev S20 : Shape := ⟨1, ![20]⟩
abbrev S100000x64 : Shape := ⟨2, ![100000, 64]⟩
abbrev S1280x128 : Shape := ⟨2, ![1280, 128]⟩
abbrev S128 : Shape := ⟨1, ![128]⟩
abbrev S128x100000 : Shape := ⟨2, ![128, 100000]⟩
abbrev S100000 : Shape := ⟨1, ![100000]⟩
abbrev S1x128 : Shape := ⟨2, ![1, 128]⟩
abbrev S1x100000 : Shape := ⟨2, ![1, 100000]⟩
abbrev S13x8x128 : Shape := ⟨3, ![13, 8, 128]⟩
abbrev S128x8192 : Shape := ⟨2, ![128, 8192]⟩
abbrev S1x8192 : Shape := ⟨2, ![1, 8192]⟩
abbrev S1x8x128 : Shape := ⟨3, ![1, 8, 128]⟩
abbrev S20x64 : Shape := ⟨2, ![20, 64]⟩
abbrev S_ : Shape := ⟨0, ![]⟩
abbrev S1 : Shape := ⟨1, ![1]⟩
abbrev S1x64 : Shape := ⟨2, ![1, 64]⟩
abbrev S64x128 : Shape := ⟨2, ![64, 128]⟩
abbrev S1x1x8192 : Shape := ⟨3, ![1, 1, 8192]⟩
abbrev S1x1x1 : Shape := ⟨3, ![1, 1, 1]⟩
abbrev S13x1x1 : Shape := ⟨3, ![13, 1, 1]⟩
abbrev S13 : Shape := ⟨1, ![13]⟩
abbrev S1x13 : Shape := ⟨2, ![1, 13]⟩
abbrev S1x1 : Shape := ⟨2, ![1, 1]⟩

abbrev nBuf : Space → Nat
  | .hbm => 11
  | .vmem => 16
  | .smem => 1
  | _ => 0

abbrev bufTy : (tb : Table) → Fin (tcTables nBuf tb) → BufTy
  | .hbm, ⟨0, _⟩ => ⟨S20, .i32⟩
  | .hbm, ⟨1, _⟩ => ⟨S100000x64, .f32⟩
  | .hbm, ⟨2, _⟩ => ⟨S1280x128, .f32⟩
  | .hbm, ⟨3, _⟩ => ⟨S128, .f32⟩
  | .hbm, ⟨4, _⟩ => ⟨S128x100000, .f32⟩
  | .hbm, ⟨5, _⟩ => ⟨S100000, .f32⟩
  | .hbm, ⟨6, _⟩ => ⟨S1x128, .f32⟩
  | .hbm, ⟨7, _⟩ => ⟨S1x100000, .f32⟩
  | .hbm, ⟨8, _⟩ => ⟨S1x100000, .f32⟩
  | .hbm, ⟨9, _⟩ => ⟨S13x8x128, .f32⟩
  | .hbm, ⟨10, _⟩ => ⟨S1x100000, .f32⟩
  | .local _ .vmem, ⟨0, _⟩ => ⟨S1280x128, .f32⟩
  | .local _ .vmem, ⟨1, _⟩ => ⟨S1x128, .f32⟩
  | .local _ .vmem, ⟨2, _⟩ => ⟨S128x8192, .f32⟩
  | .local _ .vmem, ⟨3, _⟩ => ⟨S128x8192, .f32⟩
  | .local _ .vmem, ⟨4, _⟩ => ⟨S1x8192, .f32⟩
  | .local _ .vmem, ⟨5, _⟩ => ⟨S1x8192, .f32⟩
  | .local _ .vmem, ⟨6, _⟩ => ⟨S1x8192, .f32⟩
  | .local _ .vmem, ⟨7, _⟩ => ⟨S1x8192, .f32⟩
  | .local _ .vmem, ⟨8, _⟩ => ⟨S1x8x128, .f32⟩
  | .local _ .vmem, ⟨9, _⟩ => ⟨S1x8x128, .f32⟩
  | .local _ .vmem, ⟨10, _⟩ => ⟨S20x64, .f32⟩
  | .local _ .vmem, ⟨11, _⟩ => ⟨S13x8x128, .f32⟩
  | .local _ .vmem, ⟨12, _⟩ => ⟨S1x8192, .f32⟩
  | .local _ .vmem, ⟨13, _⟩ => ⟨S1x8192, .f32⟩
  | .local _ .vmem, ⟨14, _⟩ => ⟨S1x8192, .f32⟩
  | .local _ .vmem, ⟨15, _⟩ => ⟨S1x8192, .f32⟩
  | .local _ .smem, ⟨0, _⟩ => ⟨S20, .i32⟩
  | _, _ => ⟨S20, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v3 : Ref sig .tc := ⟨.hbm, 10, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 12
abbrev cc1_sem1_0 : DmaSem sig := 13
abbrev cc1_sem1_1 : DmaSem sig := 14
abbrev cc1_sem2_0 : DmaSem sig := 15
abbrev cc1_sem2_1 : DmaSem sig := 16

abbrev nD : Nat := 1
abbrev τ : Topo := Topo.v7x

variable {F : FTy → Type} [FloatOps F]

abbrev grid0 : Pipeline.Grid := ⟨1, ![13], ![false]⟩

def k0_off1 (v0 : BitVec 32) : Fin 2 → Nat :=
  let c0_i32_1 : BitVec 32 := 0#32
  ![v0.toNat, 0]

def k0_off2 (v1 : BitVec 32) : Fin 2 → Nat :=
  let c0_i32_3 : BitVec 32 := 0#32
  ![v1.toNat, 0]

def k0_off3 (v2 : BitVec 32) : Fin 2 → Nat :=
  let c0_i32_5 : BitVec 32 := 0#32
  ![v2.toNat, 0]

def k0_off4 (v3 : BitVec 32) : Fin 2 → Nat :=
  let c0_i32_7 : BitVec 32 := 0#32
  ![v3.toNat, 0]

def k0_off5 (v4 : BitVec 32) : Fin 2 → Nat :=
  let c0_i32_9 : BitVec 32 := 0#32
  ![v4.toNat, 0]

def k0_off6 (v5 : BitVec 32) : Fin 2 → Nat :=
  let c0_i32_11 : BitVec 32 := 0#32
  ![v5.toNat, 0]

def k0_off7 (v6 : BitVec 32) : Fin 2 → Nat :=
  let c0_i32_13 : BitVec 32 := 0#32
  ![v6.toNat, 0]

def k0_off8 (v7 : BitVec 32) : Fin 2 → Nat :=
  let c0_i32_15 : BitVec 32 := 0#32
  ![v7.toNat, 0]

def k0_off9 (v8 : BitVec 32) : Fin 2 → Nat :=
  let c0_i32_17 : BitVec 32 := 0#32
  ![v8.toNat, 0]

def k0_off10 (v9 : BitVec 32) : Fin 2 → Nat :=
  let c0_i32_19 : BitVec 32 := 0#32
  ![v9.toNat, 0]

def k0_off11 (v10 : BitVec 32) : Fin 2 → Nat :=
  let c0_i32_21 : BitVec 32 := 0#32
  ![v10.toNat, 0]

def k0_off12 (v11 : BitVec 32) : Fin 2 → Nat :=
  let c0_i32_23 : BitVec 32 := 0#32
  ![v11.toNat, 0]

def k0_off13 (v12 : BitVec 32) : Fin 2 → Nat :=
  let c0_i32_25 : BitVec 32 := 0#32
  ![v12.toNat, 0]

def k0_off14 (v13 : BitVec 32) : Fin 2 → Nat :=
  let c0_i32_27 : BitVec 32 := 0#32
  ![v13.toNat, 0]

def k0_off15 (v14 : BitVec 32) : Fin 2 → Nat :=
  let c0_i32_29 : BitVec 32 := 0#32
  ![v14.toNat, 0]

def k0_off16 (v15 : BitVec 32) : Fin 2 → Nat :=
  let c0_i32_31 : BitVec 32 := 0#32
  ![v15.toNat, 0]

def k0_off17 (v16 : BitVec 32) : Fin 2 → Nat :=
  let c0_i32_33 : BitVec 32 := 0#32
  ![v16.toNat, 0]

def k0_off18 (v17 : BitVec 32) : Fin 2 → Nat :=
  let c0_i32_35 : BitVec 32 := 0#32
  ![v17.toNat, 0]

def k0_off19 (v18 : BitVec 32) : Fin 2 → Nat :=
  let c0_i32_37 : BitVec 32 := 0#32
  ![v18.toNat, 0]

def k0_off20 (v19 : BitVec 32) : Fin 2 → Nat :=
  let c0_i32_39 : BitVec 32 := 0#32
  ![v19.toNat, 0]

def k0_chk20 (v19 : BitVec 32) : Prop :=
  (∀ a, (k0_off20 v19) a + S1x64.size a ≤ S100000x64.size a)
theorem k0_off20_inb : ∀ (v19 : BitVec 32) (k0_hw20 : k0_chk20 v19), ∀ a, (k0_off20 v19) a + S1x64.size a ≤ S100000x64.size a := fun v19 k0_hw20 => k0_hw20

def k0_off21 (v0 : BitVec 32) : Fin 2 → Nat :=
  let c0_i32_42 : BitVec 32 := 0#32
  ![v0.toNat, 0]

def k0_chk1 (v0 : BitVec 32) : Prop :=
  (∀ a, (k0_off1 v0) a + S1x64.size a ≤ S100000x64.size a) ∧
  (∀ a, (k0_off21 v0) a + S1x64.size a ≤ S100000x64.size a)
theorem k0_off1_inb : ∀ (v0 : BitVec 32) (k0_hw1 : k0_chk1 v0), ∀ a, (k0_off1 v0) a + S1x64.size a ≤ S100000x64.size a := fun v0 k0_hw1 => k0_hw1.1
theorem k0_off21_inb : ∀ (v0 : BitVec 32) (k0_hw1 : k0_chk1 v0), ∀ a, (k0_off21 v0) a + S1x64.size a ≤ S100000x64.size a := fun v0 k0_hw1 => k0_hw1.2

def k0_off22 (v1 : BitVec 32) : Fin 2 → Nat :=
  let c0_i32_45 : BitVec 32 := 0#32
  ![v1.toNat, 0]

def k0_chk2 (v1 : BitVec 32) : Prop :=
  (∀ a, (k0_off2 v1) a + S1x64.size a ≤ S100000x64.size a) ∧
  (∀ a, (k0_off22 v1) a + S1x64.size a ≤ S100000x64.size a)
theorem k0_off2_inb : ∀ (v1 : BitVec 32) (k0_hw2 : k0_chk2 v1), ∀ a, (k0_off2 v1) a + S1x64.size a ≤ S100000x64.size a := fun v1 k0_hw2 => k0_hw2.1
theorem k0_off22_inb : ∀ (v1 : BitVec 32) (k0_hw2 : k0_chk2 v1), ∀ a, (k0_off22 v1) a + S1x64.size a ≤ S100000x64.size a := fun v1 k0_hw2 => k0_hw2.2

def k0_off23 (v2 : BitVec 32) : Fin 2 → Nat :=
  let c0_i32_48 : BitVec 32 := 0#32
  ![v2.toNat, 0]

def k0_chk3 (v2 : BitVec 32) : Prop :=
  (∀ a, (k0_off3 v2) a + S1x64.size a ≤ S100000x64.size a) ∧
  (∀ a, (k0_off23 v2) a + S1x64.size a ≤ S100000x64.size a)
theorem k0_off3_inb : ∀ (v2 : BitVec 32) (k0_hw3 : k0_chk3 v2), ∀ a, (k0_off3 v2) a + S1x64.size a ≤ S100000x64.size a := fun v2 k0_hw3 => k0_hw3.1
theorem k0_off23_inb : ∀ (v2 : BitVec 32) (k0_hw3 : k0_chk3 v2), ∀ a, (k0_off23 v2) a + S1x64.size a ≤ S100000x64.size a := fun v2 k0_hw3 => k0_hw3.2

def k0_off24 (v3 : BitVec 32) : Fin 2 → Nat :=
  let c0_i32_51 : BitVec 32 := 0#32
  ![v3.toNat, 0]

def k0_chk4 (v3 : BitVec 32) : Prop :=
  (∀ a, (k0_off4 v3) a + S1x64.size a ≤ S100000x64.size a) ∧
  (∀ a, (k0_off24 v3) a + S1x64.size a ≤ S100000x64.size a)
theorem k0_off4_inb : ∀ (v3 : BitVec 32) (k0_hw4 : k0_chk4 v3), ∀ a, (k0_off4 v3) a + S1x64.size a ≤ S100000x64.size a := fun v3 k0_hw4 => k0_hw4.1
theorem k0_off24_inb : ∀ (v3 : BitVec 32) (k0_hw4 : k0_chk4 v3), ∀ a, (k0_off24 v3) a + S1x64.size a ≤ S100000x64.size a := fun v3 k0_hw4 => k0_hw4.2

def k0_off25 (v4 : BitVec 32) : Fin 2 → Nat :=
  let c0_i32_54 : BitVec 32 := 0#32
  ![v4.toNat, 0]

def k0_chk5 (v4 : BitVec 32) : Prop :=
  (∀ a, (k0_off5 v4) a + S1x64.size a ≤ S100000x64.size a) ∧
  (∀ a, (k0_off25 v4) a + S1x64.size a ≤ S100000x64.size a)
theorem k0_off5_inb : ∀ (v4 : BitVec 32) (k0_hw5 : k0_chk5 v4), ∀ a, (k0_off5 v4) a + S1x64.size a ≤ S100000x64.size a := fun v4 k0_hw5 => k0_hw5.1
theorem k0_off25_inb : ∀ (v4 : BitVec 32) (k0_hw5 : k0_chk5 v4), ∀ a, (k0_off25 v4) a + S1x64.size a ≤ S100000x64.size a := fun v4 k0_hw5 => k0_hw5.2

def k0_off26 (v5 : BitVec 32) : Fin 2 → Nat :=
  let c0_i32_57 : BitVec 32 := 0#32
  ![v5.toNat, 0]

def k0_chk6 (v5 : BitVec 32) : Prop :=
  (∀ a, (k0_off6 v5) a + S1x64.size a ≤ S100000x64.size a) ∧
  (∀ a, (k0_off26 v5) a + S1x64.size a ≤ S100000x64.size a)
theorem k0_off6_inb : ∀ (v5 : BitVec 32) (k0_hw6 : k0_chk6 v5), ∀ a, (k0_off6 v5) a + S1x64.size a ≤ S100000x64.size a := fun v5 k0_hw6 => k0_hw6.1
theorem k0_off26_inb : ∀ (v5 : BitVec 32) (k0_hw6 : k0_chk6 v5), ∀ a, (k0_off26 v5) a + S1x64.size a ≤ S100000x64.size a := fun v5 k0_hw6 => k0_hw6.2

def k0_off27 (v6 : BitVec 32) : Fin 2 → Nat :=
  let c0_i32_60 : BitVec 32 := 0#32
  ![v6.toNat, 0]

def k0_chk7 (v6 : BitVec 32) : Prop :=
  (∀ a, (k0_off7 v6) a + S1x64.size a ≤ S100000x64.size a) ∧
  (∀ a, (k0_off27 v6) a + S1x64.size a ≤ S100000x64.size a)
theorem k0_off7_inb : ∀ (v6 : BitVec 32) (k0_hw7 : k0_chk7 v6), ∀ a, (k0_off7 v6) a + S1x64.size a ≤ S100000x64.size a := fun v6 k0_hw7 => k0_hw7.1
theorem k0_off27_inb : ∀ (v6 : BitVec 32) (k0_hw7 : k0_chk7 v6), ∀ a, (k0_off27 v6) a + S1x64.size a ≤ S100000x64.size a := fun v6 k0_hw7 => k0_hw7.2

def k0_off28 (v7 : BitVec 32) : Fin 2 → Nat :=
  let c0_i32_63 : BitVec 32 := 0#32
  ![v7.toNat, 0]

def k0_chk8 (v7 : BitVec 32) : Prop :=
  (∀ a, (k0_off8 v7) a + S1x64.size a ≤ S100000x64.size a) ∧
  (∀ a, (k0_off28 v7) a + S1x64.size a ≤ S100000x64.size a)
theorem k0_off8_inb : ∀ (v7 : BitVec 32) (k0_hw8 : k0_chk8 v7), ∀ a, (k0_off8 v7) a + S1x64.size a ≤ S100000x64.size a := fun v7 k0_hw8 => k0_hw8.1
theorem k0_off28_inb : ∀ (v7 : BitVec 32) (k0_hw8 : k0_chk8 v7), ∀ a, (k0_off28 v7) a + S1x64.size a ≤ S100000x64.size a := fun v7 k0_hw8 => k0_hw8.2

def k0_off29 (v8 : BitVec 32) : Fin 2 → Nat :=
  let c0_i32_66 : BitVec 32 := 0#32
  ![v8.toNat, 0]

def k0_chk9 (v8 : BitVec 32) : Prop :=
  (∀ a, (k0_off9 v8) a + S1x64.size a ≤ S100000x64.size a) ∧
  (∀ a, (k0_off29 v8) a + S1x64.size a ≤ S100000x64.size a)
theorem k0_off9_inb : ∀ (v8 : BitVec 32) (k0_hw9 : k0_chk9 v8), ∀ a, (k0_off9 v8) a + S1x64.size a ≤ S100000x64.size a := fun v8 k0_hw9 => k0_hw9.1
theorem k0_off29_inb : ∀ (v8 : BitVec 32) (k0_hw9 : k0_chk9 v8), ∀ a, (k0_off29 v8) a + S1x64.size a ≤ S100000x64.size a := fun v8 k0_hw9 => k0_hw9.2

def k0_off30 (v9 : BitVec 32) : Fin 2 → Nat :=
  let c0_i32_69 : BitVec 32 := 0#32
  ![v9.toNat, 0]

def k0_chk10 (v9 : BitVec 32) : Prop :=
  (∀ a, (k0_off10 v9) a + S1x64.size a ≤ S100000x64.size a) ∧
  (∀ a, (k0_off30 v9) a + S1x64.size a ≤ S100000x64.size a)
theorem k0_off10_inb : ∀ (v9 : BitVec 32) (k0_hw10 : k0_chk10 v9), ∀ a, (k0_off10 v9) a + S1x64.size a ≤ S100000x64.size a := fun v9 k0_hw10 => k0_hw10.1
theorem k0_off30_inb : ∀ (v9 : BitVec 32) (k0_hw10 : k0_chk10 v9), ∀ a, (k0_off30 v9) a + S1x64.size a ≤ S100000x64.size a := fun v9 k0_hw10 => k0_hw10.2

def k0_off31 (v10 : BitVec 32) : Fin 2 → Nat :=
  let c0_i32_72 : BitVec 32 := 0#32
  ![v10.toNat, 0]

def k0_chk11 (v10 : BitVec 32) : Prop :=
  (∀ a, (k0_off11 v10) a + S1x64.size a ≤ S100000x64.size a) ∧
  (∀ a, (k0_off31 v10) a + S1x64.size a ≤ S100000x64.size a)
theorem k0_off11_inb : ∀ (v10 : BitVec 32) (k0_hw11 : k0_chk11 v10), ∀ a, (k0_off11 v10) a + S1x64.size a ≤ S100000x64.size a := fun v10 k0_hw11 => k0_hw11.1
theorem k0_off31_inb : ∀ (v10 : BitVec 32) (k0_hw11 : k0_chk11 v10), ∀ a, (k0_off31 v10) a + S1x64.size a ≤ S100000x64.size a := fun v10 k0_hw11 => k0_hw11.2

def k0_off32 (v11 : BitVec 32) : Fin 2 → Nat :=
  let c0_i32_75 : BitVec 32 := 0#32
  ![v11.toNat, 0]

def k0_chk12 (v11 : BitVec 32) : Prop :=
  (∀ a, (k0_off12 v11) a + S1x64.size a ≤ S100000x64.size a) ∧
  (∀ a, (k0_off32 v11) a + S1x64.size a ≤ S100000x64.size a)
theorem k0_off12_inb : ∀ (v11 : BitVec 32) (k0_hw12 : k0_chk12 v11), ∀ a, (k0_off12 v11) a + S1x64.size a ≤ S100000x64.size a := fun v11 k0_hw12 => k0_hw12.1
theorem k0_off32_inb : ∀ (v11 : BitVec 32) (k0_hw12 : k0_chk12 v11), ∀ a, (k0_off32 v11) a + S1x64.size a ≤ S100000x64.size a := fun v11 k0_hw12 => k0_hw12.2

def k0_off33 (v12 : BitVec 32) : Fin 2 → Nat :=
  let c0_i32_78 : BitVec 32 := 0#32
  ![v12.toNat, 0]

def k0_chk13 (v12 : BitVec 32) : Prop :=
  (∀ a, (k0_off13 v12) a + S1x64.size a ≤ S100000x64.size a) ∧
  (∀ a, (k0_off33 v12) a + S1x64.size a ≤ S100000x64.size a)
theorem k0_off13_inb : ∀ (v12 : BitVec 32) (k0_hw13 : k0_chk13 v12), ∀ a, (k0_off13 v12) a + S1x64.size a ≤ S100000x64.size a := fun v12 k0_hw13 => k0_hw13.1
theorem k0_off33_inb : ∀ (v12 : BitVec 32) (k0_hw13 : k0_chk13 v12), ∀ a, (k0_off33 v12) a + S1x64.size a ≤ S100000x64.size a := fun v12 k0_hw13 => k0_hw13.2

def k0_off34 (v13 : BitVec 32) : Fin 2 → Nat :=
  let c0_i32_81 : BitVec 32 := 0#32
  ![v13.toNat, 0]

def k0_chk14 (v13 : BitVec 32) : Prop :=
  (∀ a, (k0_off14 v13) a + S1x64.size a ≤ S100000x64.size a) ∧
  (∀ a, (k0_off34 v13) a + S1x64.size a ≤ S100000x64.size a)
theorem k0_off14_inb : ∀ (v13 : BitVec 32) (k0_hw14 : k0_chk14 v13), ∀ a, (k0_off14 v13) a + S1x64.size a ≤ S100000x64.size a := fun v13 k0_hw14 => k0_hw14.1
theorem k0_off34_inb : ∀ (v13 : BitVec 32) (k0_hw14 : k0_chk14 v13), ∀ a, (k0_off34 v13) a + S1x64.size a ≤ S100000x64.size a := fun v13 k0_hw14 => k0_hw14.2

def k0_off35 (v14 : BitVec 32) : Fin 2 → Nat :=
  let c0_i32_84 : BitVec 32 := 0#32
  ![v14.toNat, 0]

def k0_chk15 (v14 : BitVec 32) : Prop :=
  (∀ a, (k0_off15 v14) a + S1x64.size a ≤ S100000x64.size a) ∧
  (∀ a, (k0_off35 v14) a + S1x64.size a ≤ S100000x64.size a)
theorem k0_off15_inb : ∀ (v14 : BitVec 32) (k0_hw15 : k0_chk15 v14), ∀ a, (k0_off15 v14) a + S1x64.size a ≤ S100000x64.size a := fun v14 k0_hw15 => k0_hw15.1
theorem k0_off35_inb : ∀ (v14 : BitVec 32) (k0_hw15 : k0_chk15 v14), ∀ a, (k0_off35 v14) a + S1x64.size a ≤ S100000x64.size a := fun v14 k0_hw15 => k0_hw15.2

def k0_off36 (v15 : BitVec 32) : Fin 2 → Nat :=
  let c0_i32_87 : BitVec 32 := 0#32
  ![v15.toNat, 0]

def k0_chk16 (v15 : BitVec 32) : Prop :=
  (∀ a, (k0_off16 v15) a + S1x64.size a ≤ S100000x64.size a) ∧
  (∀ a, (k0_off36 v15) a + S1x64.size a ≤ S100000x64.size a)
theorem k0_off16_inb : ∀ (v15 : BitVec 32) (k0_hw16 : k0_chk16 v15), ∀ a, (k0_off16 v15) a + S1x64.size a ≤ S100000x64.size a := fun v15 k0_hw16 => k0_hw16.1
theorem k0_off36_inb : ∀ (v15 : BitVec 32) (k0_hw16 : k0_chk16 v15), ∀ a, (k0_off36 v15) a + S1x64.size a ≤ S100000x64.size a := fun v15 k0_hw16 => k0_hw16.2

def k0_off37 (v16 : BitVec 32) : Fin 2 → Nat :=
  let c0_i32_90 : BitVec 32 := 0#32
  ![v16.toNat, 0]

def k0_chk17 (v16 : BitVec 32) : Prop :=
  (∀ a, (k0_off17 v16) a + S1x64.size a ≤ S100000x64.size a) ∧
  (∀ a, (k0_off37 v16) a + S1x64.size a ≤ S100000x64.size a)
theorem k0_off17_inb : ∀ (v16 : BitVec 32) (k0_hw17 : k0_chk17 v16), ∀ a, (k0_off17 v16) a + S1x64.size a ≤ S100000x64.size a := fun v16 k0_hw17 => k0_hw17.1
theorem k0_off37_inb : ∀ (v16 : BitVec 32) (k0_hw17 : k0_chk17 v16), ∀ a, (k0_off37 v16) a + S1x64.size a ≤ S100000x64.size a := fun v16 k0_hw17 => k0_hw17.2

def k0_off38 (v17 : BitVec 32) : Fin 2 → Nat :=
  let c0_i32_93 : BitVec 32 := 0#32
  ![v17.toNat, 0]

def k0_chk18 (v17 : BitVec 32) : Prop :=
  (∀ a, (k0_off18 v17) a + S1x64.size a ≤ S100000x64.size a) ∧
  (∀ a, (k0_off38 v17) a + S1x64.size a ≤ S100000x64.size a)
theorem k0_off18_inb : ∀ (v17 : BitVec 32) (k0_hw18 : k0_chk18 v17), ∀ a, (k0_off18 v17) a + S1x64.size a ≤ S100000x64.size a := fun v17 k0_hw18 => k0_hw18.1
theorem k0_off38_inb : ∀ (v17 : BitVec 32) (k0_hw18 : k0_chk18 v17), ∀ a, (k0_off38 v17) a + S1x64.size a ≤ S100000x64.size a := fun v17 k0_hw18 => k0_hw18.2

def k0_off39 (v18 : BitVec 32) : Fin 2 → Nat :=
  let c0_i32_96 : BitVec 32 := 0#32
  ![v18.toNat, 0]

def k0_chk19 (v18 : BitVec 32) : Prop :=
  (∀ a, (k0_off19 v18) a + S1x64.size a ≤ S100000x64.size a) ∧
  (∀ a, (k0_off39 v18) a + S1x64.size a ≤ S100000x64.size a)
theorem k0_off19_inb : ∀ (v18 : BitVec 32) (k0_hw19 : k0_chk19 v18), ∀ a, (k0_off19 v18) a + S1x64.size a ≤ S100000x64.size a := fun v18 k0_hw19 => k0_hw19.1
theorem k0_off39_inb : ∀ (v18 : BitVec 32) (k0_hw19 : k0_chk19 v18), ∀ a, (k0_off39 v18) a + S1x64.size a ≤ S100000x64.size a := fun v18 k0_hw19 => k0_hw19.2

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S20 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1280x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![13], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S13x8x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1x8192 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x8192 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]
-- ==== ReferenceIdeal.lean ====
abbrev S20 : Shape := ⟨1, ![20]⟩
abbrev S100000x64 : Shape := ⟨2, ![100000, 64]⟩
abbrev S1280x128 : Shape := ⟨2, ![1280, 128]⟩
abbrev S128 : Shape := ⟨1, ![128]⟩
abbrev S128x100000 : Shape := ⟨2, ![128, 100000]⟩
abbrev S100000 : Shape := ⟨1, ![100000]⟩
abbrev S_ : Shape := ⟨0, ![]⟩
abbrev S20x1 : Shape := ⟨2, ![20, 1]⟩
abbrev S1 : Shape := ⟨1, ![1]⟩
abbrev S1x1 : Shape := ⟨2, ![1, 1]⟩
abbrev S20x64 : Shape := ⟨2, ![20, 64]⟩
abbrev S1x1280 : Shape := ⟨2, ![1, 1280]⟩
abbrev S1x128 : Shape := ⟨2, ![1, 128]⟩
abbrev S1x100000 : Shape := ⟨2, ![1, 100000]⟩

abbrev nBuf : Space → Nat
  | .hbm => 54
  | .vmem => 0
  | .smem => 0
  | _ => 0

abbrev bufTy : (tb : Table) → Fin (tcTables nBuf tb) → BufTy
  | .hbm, ⟨0, _⟩ => ⟨S20, .i32⟩
  | .hbm, ⟨1, _⟩ => ⟨S100000x64, .f32⟩
  | .hbm, ⟨2, _⟩ => ⟨S1280x128, .f32⟩
  | .hbm, ⟨3, _⟩ => ⟨S128, .f32⟩
  | .hbm, ⟨4, _⟩ => ⟨S128x100000, .f32⟩
  | .hbm, ⟨5, _⟩ => ⟨S100000, .f32⟩
  | .hbm, ⟨6, _⟩ => ⟨S_, .i32⟩
  | .hbm, ⟨7, _⟩ => ⟨S20, .i32⟩
  | .hbm, ⟨8, _⟩ => ⟨S20, .i1⟩
  | .hbm, ⟨9, _⟩ => ⟨S_, .i32⟩
  | .hbm, ⟨10, _⟩ => ⟨S20, .i32⟩
  | .hbm, ⟨11, _⟩ => ⟨S20, .i32⟩
  | .hbm, ⟨12, _⟩ => ⟨S20, .i32⟩
  | .hbm, ⟨13, _⟩ => ⟨S20x1, .i32⟩
  | .hbm, ⟨14, _⟩ => ⟨S1, .i32⟩
  | .hbm, ⟨15, _⟩ => ⟨S_, .i32⟩
  | .hbm, ⟨16, _⟩ => ⟨S20x1, .i32⟩
  | .hbm, ⟨17, _⟩ => ⟨S20x1, .i1⟩
  | .hbm, ⟨18, _⟩ => ⟨S1x1, .i32⟩
  | .hbm, ⟨19, _⟩ => ⟨S20x1, .i32⟩
  | .hbm, ⟨20, _⟩ => ⟨S20x1, .i1⟩
  | .hbm, ⟨21, _⟩ => ⟨S20x1, .i1⟩
  | .hbm, ⟨22, _⟩ => ⟨S_, .i1⟩
  | .hbm, ⟨23, _⟩ => ⟨S20, .i1⟩
  | .hbm, ⟨24, _⟩ => ⟨S20x64, .f32⟩
  | .hbm, ⟨25, _⟩ => ⟨S20x64, .i1⟩
  | .hbm, ⟨26, _⟩ => ⟨S_, .f32⟩
  | .hbm, ⟨27, _⟩ => ⟨S20x64, .f32⟩
  | .hbm, ⟨28, _⟩ => ⟨S20x64, .f32⟩
  | .hbm, ⟨29, _⟩ => ⟨S1x1280, .f32⟩
  | .hbm, ⟨30, _⟩ => ⟨S1x128, .f32⟩
  | .hbm, ⟨31, _⟩ => ⟨S1x128, .f32⟩
  | .hbm, ⟨32, _⟩ => ⟨S1x128, .f32⟩
  | .hbm, ⟨33, _⟩ => ⟨S_, .f32⟩
  | .hbm, ⟨34, _⟩ => ⟨S1x128, .f32⟩
  | .hbm, ⟨35, _⟩ => ⟨S1x128, .f32⟩
  | .hbm, ⟨36, _⟩ => ⟨S1x100000, .f32⟩
  | .hbm, ⟨37, _⟩ => ⟨S1x100000, .f32⟩
  | .hbm, ⟨38, _⟩ => ⟨S1x100000, .f32⟩
  | .hbm, ⟨39, _⟩ => ⟨S_, .f32⟩
  | .hbm, ⟨40, _⟩ => ⟨S1, .f32⟩
  | .hbm, ⟨41, _⟩ => ⟨S_, .f32⟩
  | .hbm, ⟨42, _⟩ => ⟨S1, .f32⟩
  | .hbm, ⟨43, _⟩ => ⟨S1, .f32⟩
  | .hbm, ⟨44, _⟩ => ⟨S1x1, .f32⟩
  | .hbm, ⟨45, _⟩ => ⟨S1x100000, .f32⟩
  | .hbm, ⟨46, _⟩ => ⟨S1x100000, .f32⟩
  | .hbm, ⟨47, _⟩ => ⟨S1x100000, .f32⟩
  | .hbm, ⟨48, _⟩ => ⟨S_, .f32⟩
  | .hbm, ⟨49, _⟩ => ⟨S1, .f32⟩
  | .hbm, ⟨50, _⟩ => ⟨S1x1, .f32⟩
  | .hbm, ⟨51, _⟩ => ⟨S1x1, .f32⟩
  | .hbm, ⟨52, _⟩ => ⟨S1x100000, .f32⟩
  | .hbm, ⟨53, _⟩ => ⟨S1x100000, .f32⟩
  | _, _ => ⟨S20, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_call1_cst : Ref sig .tc := ⟨.hbm, 33, rfl⟩
abbrev main_call1_v0 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_call2_cst : Ref sig .tc := ⟨.hbm, 39, rfl⟩
abbrev main_call2_v0 : Ref sig .tc := ⟨.hbm, 40, rfl⟩
abbrev main_call2_cst_0 : Ref sig .tc := ⟨.hbm, 41, rfl⟩
abbrev main_call2_v1 : Ref sig .tc := ⟨.hbm, 42, rfl⟩
abbrev main_call2_v2 : Ref sig .tc := ⟨.hbm, 43, rfl⟩
abbrev main_call2_v3 : Ref sig .tc := ⟨.hbm, 44, rfl⟩
abbrev main_call2_v4 : Ref sig .tc := ⟨.hbm, 45, rfl⟩
abbrev main_call2_v5 : Ref sig .tc := ⟨.hbm, 46, rfl⟩
abbrev main_call2_v6 : Ref sig .tc := ⟨.hbm, 47, rfl⟩
abbrev main_call2_cst_1 : Ref sig .tc := ⟨.hbm, 48, rfl⟩
abbrev main_call2_v7 : Ref sig .tc := ⟨.hbm, 49, rfl⟩
abbrev main_call2_v8 : Ref sig .tc := ⟨.hbm, 50, rfl⟩
abbrev main_call2_v9 : Ref sig .tc := ⟨.hbm, 51, rfl⟩
abbrev main_call2_v10 : Ref sig .tc := ⟨.hbm, 52, rfl⟩
abbrev main_v9 : Ref sig .tc := ⟨.hbm, 53, rfl⟩

abbrev nD : Nat := 1
abbrev τ : Topo := Topo.v7x

variable {F : FTy → Type} [FloatOps F]
-- ==== Proof.Gather.lean ====
module

public import proofs.«01_k».proof.Proof.Gen.Kernel.Launch
public import proofs.«01_k».proof.Proof.Gen.Kernel.Points
public import proofs.«01_k».proof.Proof.Gen.Kernel.Skeleton
public import Idealize.ShloMosaic.Lib.Batch
public import Idealize.ShloMosaic.Lib.Tactic
public import Idealize.ShloMosaic.Lib.Pipeline.Kit

@[expose] public section

noncomputable section

namespace Cert.Proof.Cbow

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UU (nD : Nat) (τ : Topo) : Type := UR sig nD τ × (UR sig nD τ × Counters)

local notation "𝕄" => MT nD τ sig Unit (Elt F) ℕ (UU nD τ) ℕ

abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

theorem row_inb (k : Fin 20) : ∀ a, (![k.val, 0] : Fin 2 → Nat) a + S1x64.size a ≤ S20x64.size a := by
  intro a; revert k a; decide

theorem word_inb : ∀ k : Fin 20, ∀ a, (![k.val] : Fin 1 → Nat) a + S1.size a ≤ S20.size a := by decide

theorem tab_inb (w : BitVec 32) (h : w.toNat < 100000) : ∀ a, (![w.toNat, 0] : Fin 2 → Nat) a + S1x64.size a ≤ S100000x64.size a := by
  intro a; fin_cases a <;> simp [S1x64, S100000x64] <;> omega

/-- Row `k` of the scratch. -/
abbrev rowM (k : Fin 20) : Memref sig .tc .vmem S1x64 .f32 :=
  (Memref.whole cc0_scratch0).slice (Rect.unit (s := S20x64) ![k.val, 0] S1x64.size (row_inb k)) (fun _ => rfl)

/-- Row `w` of the table. -/
abbrev tabM (w : BitVec 32) (h : w.toNat < 100000) : Memref sig .tc .hbm S1x64 .f32 :=
  (Memref.whole main_arg1).slice (Rect.unit (s := S100000x64) ![w.toNat, 0] S1x64.size (tab_inb w h)) (fun _ => rfl)

/-- The share of the table lent to copy `k`. -/
def tok (k : Fin 20) : PosShare TreeShare := Transfers.shareTok fullShare 20 k

/-- Word `k` of the index operand. -/
abbrev word (c : Dev nD) (M0 : Memref sig .tc .smem S20 .i32) (f0 : Bf (F := F) c M0) (k : Fin 20) : BitVec 32 :=
  View.readAt (Elt F) M0.view (Rect.unit (s := S20) ![k.val] S1.size (word_inb k)).toLoadRect f0 (Shape.Idx.first (numel1_S1.symm ▸ Nat.one_pos))

/-- What copy `k` delivers. -/
def deliv (c : Dev nD) (fE : Bf (F := F) c (Memref.whole main_arg1)) (fd : (k : Fin 20) → Bf (F := F) c (rowM k))
    (w : Fin 20 → BitVec 32) (hw : ∀ k, (w k).toNat < 100000) (k : Fin 20) : sProp 𝕄 :=
  iprop(((rowM k).view.loc (c : Thread nD τ) ↦[(rowM k).view.set]{fullShare} (rowM k).view.writes (Elt F) (fd k) [⟨Rect.whole S1x64, ReadAs.same.apply ((tabM (w k) (hw k)).view.read (Elt F) fE)⟩])
    ∗ ((tabM (w k) (hw k)).view.loc (c : Thread nD τ) ↦[(tabM (w k) (hw k)).view.set]{tok k} fE))

instance (c : Dev nD) (fE : Bf (F := F) c (Memref.whole main_arg1)) (fd : (k : Fin 20) → Bf (F := F) c (rowM k))
    (w : Fin 20 → BitVec 32) (hw : ∀ k, (w k).toNat < 100000) (k : Fin 20) :
    Storable (upEmb : UEmb _ 𝕄) (deliv c fE fd w hw k) := by
  unfold deliv; infer_instance

theorem bigSep_20 {M : Type} [URA M] (Φ : Fin 20 → sProp M) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19) :=
  bigSep_univ_eq_bigSepL [0, 1, 2, 3, 4, 5, 6, 7, 8, 9, 10, 11, 12, 13, 14, 15, 16, 17, 18, 19] (by decide) (by decide) Φ

/-- What the kernel's loads read of scratch row `k` once copy `k` has landed there. -/
def rowV (c : Dev nD) (fE : Bf (F := F) c (Memref.whole main_arg1)) (w : Fin 20 → BitVec 32) (hw : ∀ k, (w k).toNat < 100000) (k : Fin 20) :
    Vec F S1x64 .f32 :=
  View.readAt (Elt F) (Memref.whole cc0_scratch0).view (Rect.unit (s := S20x64) ![k.val, 0] S1x64.size (row_inb k)).toLoadRect
    ((rowM k).view.writes (Elt F) (rowM k).view.junk [⟨Rect.whole S1x64, ReadAs.same.apply (View.read (Elt F) (tabM (w k) (hw k)).view fE)⟩])

theorem part_inb (k : Fin 20) : ∀ a, (![64 * k.val, 0] : Fin 2 → Nat) a + S64x128.size a ≤ S1280x128.size a := by
  intro a; revert k a; decide

/-- Rows `64 k … 64 k + 63` of the first weight. -/
abbrev partV (c : Dev nD) (M1 : Memref sig .tc .vmem S1280x128 .f32) (f1 : Bf (F := F) c M1) (k : Fin 20) : Vec F S64x128 .f32 :=
  View.readAt (Elt F) M1.view (Rect.unit (s := S1280x128) ![64 * k.val, 0] S64x128.size (part_inb k)).toLoadRect f1

/-- The hidden layer before its last summand: the bias, then nineteen of the twenty products, in the kernel's order. -/
def accV (r : Fin 20 → Vec F S1x64 .f32) (p : Fin 20 → Vec F S64x128 .f32) (b1 : Vec F S1x128 .f32) : FVec F S1x128 .f32 :=
  k0_pay4 (k0_pay3 (k0_pay2 b1 (r 0) (p 0) (r 1) (p 1) (r 2) (p 2) (r 3) (p 3) (r 4) (p 4) (r 5) (p 5))
      (r 6) (p 6) (r 7) (p 7) (r 8) (p 8) (r 9) (p 9) (r 10) (p 10) (r 11) (p 11))
    (r 12) (p 12) (constant S1x128 .f32 0x00000000#32) (r 13) (p 13) (r 14) (p 14) (r 15) (p 15) (r 16) (p 16) (r 17) (p 17) (r 18) (p 18)

/-- The block of logits a point stores. -/
def zV (r : Fin 20 → Vec F S1x64 .f32) (p : Fin 20 → Vec F S64x128 .f32) (b1 : Vec F S1x128 .f32)
    (w2 : Vec F S128x8192 .f32) (b2 : Vec F S1x8192 .f32) : FVec F S1x8192 .f32 :=
  k0_pay5 (accV r p b1) (r 19) (p 19) w2 b2

/-- The block of statistics a point stores. -/
def stV (i : BitVec 32) (r : Fin 20 → Vec F S1x64 .f32) (p : Fin 20 → Vec F S64x128 .f32) (b1 : Vec F S1x128 .f32)
    (w2 : Vec F S128x8192 .f32) (b2 : Vec F S1x8192 .f32) : FVec F S1x8x128 .f32 :=
  k0_pay1 k0_pay8 (k0_pay9 i (accV r p b1) (r 19) (p 19) w2 b2) (k0_pay10 i (accV r p b1) (r 19) (p 19) w2 b2)

/-- The last three operands as the kernel loads them. -/
abbrev b1L (c : Dev nD) (M2 : Memref sig .tc .vmem S1x128 .f32) (f2 : Bf (F := F) c M2) : Vec F S1x128 .f32 :=
  View.readAt (Elt F) M2.view (Rect.unit (s := S1x128) ![0, 0] S1x128.size inb_S1x128_S1x128_0_0).toLoadRect f2
abbrev w2L (c : Dev nD) (M3 : Memref sig .tc .vmem S128x8192 .f32) (f3 : Bf (F := F) c M3) : Vec F S128x8192 .f32 :=
  View.readAt (Elt F) M3.view (Rect.unit (s := S128x8192) ![0, 0] S128x8192.size inb_S128x8192_S128x8192_0_0).toLoadRect f3
abbrev b2L (c : Dev nD) (M4 : Memref sig .tc .vmem S1x8192 .f32) (f4 : Bf (F := F) c M4) : Vec F S1x8192 .f32 :=
  View.readAt (Elt F) M4.view (Rect.unit (s := S1x8192) ![0, 0] S1x8192.size inb_S1x8192_S1x8192_0_0).toLoadRect f4

set_option maxHeartbeats 40000000 in
set_option sl_exec.stepHeartbeats 10000000 in
/-- One point of the first kernel. The table is held as twenty windows, each on the row its copy reads and at that copy's
    share; the scratch as its twenty rows. -/
theorem logitsRun (c : Dev nD) (t : Fin grid0.N)
    (M0 : Memref sig .tc .smem S20 .i32) (h0 : M0.IsWhole) (M1 : Memref sig .tc .vmem S1280x128 .f32) (h1 : M1.IsWhole)
    (M2 : Memref sig .tc .vmem S1x128 .f32) (h2 : M2.IsWhole) (M3 : Memref sig .tc .vmem S128x8192 .f32) (h3 : M3.IsWhole)
    (M4 : Memref sig .tc .vmem S1x8192 .f32) (h4 : M4.IsWhole) (M5 : Memref sig .tc .vmem S1x8192 .f32) (h5 : M5.IsWhole)
    (M6 : Memref sig .tc .vmem S1x8x128 .f32) (h6 : M6.IsWhole)
    (f0 : Bf (F := F) c M0) (f1 : Bf (F := F) c M1) (f2 : Bf (F := F) c M2) (f3 : Bf (F := F) c M3) (f4 : Bf (F := F) c M4)
    (f5 : Bf (F := F) c M5) (f6 : Bf (F := F) c M6) (fE : Bf (F := F) c (Memref.whole main_arg1))
    (fd : (k : Fin 20) → Bf (F := F) c (rowM k))
    (hw : ∀ (r : LoadRect S20) (x : r.shape.Idx), (show BitVec 32 from View.readAt (Elt F) M0.view r f0 x).toNat < 100000)
    (hw' : ∀ k, (word c M0 f0 k).toNat < 100000)
    (W : Waits sig Unit) (Q : PUnit → sProp 𝕄) :
    iprop(pt c M0 f0 ∗ pt c M1 f1 ∗ pt c M2 f2 ∗ pt c M3 f3 ∗ pt c M4 f4 ∗ pt c M5 f5 ∗ pt c M6 f6
      ∗ (bigSep Finset.univ fun k : Fin 20 => ((tabM (word c M0 f0 k) (hw' k)).view.loc (c : Thread nD τ) ↦[(tabM (word c M0 f0 k) (hw' k)).view.set]{tok k} fE))
      ∗ (bigSep Finset.univ fun k : Fin 20 => ((rowM k).view.loc (c : Thread nD τ) ↦[(rowM k).view.set]{fullShare} fd k))
      ∗ semVal ((c : Thread nD τ), SemLoc.dma 11) 0 ∗ owes (c : Thread nD τ) 0 W
      ∗ (iprop(pt c M0 f0 ∗ pt c M1 f1 ∗ pt c M2 f2 ∗ pt c M3 f3 ∗ pt c M4 f4
        ∗ pt c M5 (M5.view.writes (Elt F) f5 [⟨Rect.unit ![0, 0] S1x8192.size inb_S1x8192_S1x8192_0_0,
            zV (rowV c fE (word c M0 f0) hw') (partV c M1 f1) (b1L c M2 f2) (w2L c M3 f3) (b2L c M4 f4)⟩])
        ∗ pt c M6 (M6.view.writes (Elt F) f6 [⟨Rect.unit ![0, 0, 0] S1x8x128.size inb_S1x8x128_S1x8x128_0_0_0,
            stV (BitVec.ofNat 32 (grid0.coords t 0)) (rowV c fE (word c M0 f0) hw') (partV c M1 f1) (b1L c M2 f2) (w2L c M3 f3) (b2L c M4 f4)⟩])
      ∗ (bigSep Finset.univ fun k : Fin 20 => ((tabM (word c M0 f0 k) (hw' k)).view.loc (c : Thread nD τ) ↦[(tabM (word c M0 f0 k) (hw' k)).view.set]{tok k} fE))
      ∗ (bigSep Finset.univ fun k : Fin 20 => iprop(∃ f, (rowM k).view.loc (c : Thread nD τ) ↦[(rowM k).view.set]{fullShare} f))
      ∗ semVal ((c : Thread nD τ), SemLoc.dma 11) 0 ∗ ∃ W, owes (c : Thread nD τ) 0 W) -∗ Q ⟨⟩))
    ⊢ wp frame (wpE (defs₀ (F := F)) Variants.none c none) Set.univ
        (cc0__logits_kernel (grid0.coords t) M0 h0 (Memref.whole main_arg1) (Memref.isWhole_whole _) M1 h1 M2 h2 M3 h3 M4 h4 M5 h5 M6 h6
          (Memref.whole cc0_scratch0) (Memref.isWhole_whole _) cc0_scratch1) Q := by
  rw [bigSep_20, bigSep_20, bigSep_20]
  iintro ⟨H0, H1, H2, H3, H4, H5, H6, ⟨E0, E1, E2, E3, E4, E5, E6, E7, E8, E9, E10, E11, E12, E13, E14, E15, E16, E17, E18, E19⟩, ⟨R0, R1, R2, R3, R4, R5, R6, R7, R8, R9, R10, R11, R12, R13, R14, R15, R16, R17, R18, R19⟩, Hd, HO, Hk⟩
  imod (Transfers.batch_alloc' (Lvl := ℕ) (countersEmb (U := UU nD τ)) (c : Thread nD τ) () ((rowM 0).view.amount (.dma 11)) (deliv c fE fd (word c M0 f0) hw') (sm := .dma 11) (E := Set.univ)) $$ Hd with HB
  sl_exec (disch := first | exact ⟨tab_inb _ (hw _ _), tab_inb _ (hw _ _)⟩ | exact tab_inb _ (hw _ _))
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HB_src0 HB_src1 HB_src2 HB_src3 HB_src4 HB_src5 HB_src6 HB_src7 HB_src8 HB_src9 HB_src10 HB_src11 HB_src12 HB_src13 HB_src14 HB_src15 HB_src16 HB_src17 HB_src18 HB_src19]
  · isplitl [HB_src0]; · iexact HB_src0
    isplitl [HB_src1]; · iexact HB_src1
    isplitl [HB_src2]; · iexact HB_src2
    isplitl [HB_src3]; · iexact HB_src3
    isplitl [HB_src4]; · iexact HB_src4
    isplitl [HB_src5]; · iexact HB_src5
    isplitl [HB_src6]; · iexact HB_src6
    isplitl [HB_src7]; · iexact HB_src7
    isplitl [HB_src8]; · iexact HB_src8
    isplitl [HB_src9]; · iexact HB_src9
    isplitl [HB_src10]; · iexact HB_src10
    isplitl [HB_src11]; · iexact HB_src11
    isplitl [HB_src12]; · iexact HB_src12
    isplitl [HB_src13]; · iexact HB_src13
    isplitl [HB_src14]; · iexact HB_src14
    isplitl [HB_src15]; · iexact HB_src15
    isplitl [HB_src16]; · iexact HB_src16
    isplitl [HB_src17]; · iexact HB_src17
    isplitl [HB_src18]; · iexact HB_src18
    iexact HB_src19
  isplitl [HB_dst0 HB_dst1 HB_dst2 HB_dst3 HB_dst4 HB_dst5 HB_dst6 HB_dst7 HB_dst8 HB_dst9 HB_dst10 HB_dst11 HB_dst12 HB_dst13 HB_dst14 HB_dst15 HB_dst16 HB_dst17 HB_dst18 HB_dst19]
  · isplitl [HB_dst0]; · iexists _; iexact HB_dst0
    isplitl [HB_dst1]; · iexists _; iexact HB_dst1
    isplitl [HB_dst2]; · iexists _; iexact HB_dst2
    isplitl [HB_dst3]; · iexists _; iexact HB_dst3
    isplitl [HB_dst4]; · iexists _; iexact HB_dst4
    isplitl [HB_dst5]; · iexists _; iexact HB_dst5
    isplitl [HB_dst6]; · iexists _; iexact HB_dst6
    isplitl [HB_dst7]; · iexists _; iexact HB_dst7
    isplitl [HB_dst8]; · iexists _; iexact HB_dst8
    isplitl [HB_dst9]; · iexists _; iexact HB_dst9
    isplitl [HB_dst10]; · iexists _; iexact HB_dst10
    isplitl [HB_dst11]; · iexists _; iexact HB_dst11
    isplitl [HB_dst12]; · iexists _; iexact HB_dst12
    isplitl [HB_dst13]; · iexists _; iexact HB_dst13
    isplitl [HB_dst14]; · iexists _; iexact HB_dst14
    isplitl [HB_dst15]; · iexists _; iexact HB_dst15
    isplitl [HB_dst16]; · iexists _; iexact HB_dst16
    isplitl [HB_dst17]; · iexists _; iexact HB_dst17
    isplitl [HB_dst18]; · iexists _; iexact HB_dst18
    iexists _; iexact HB_dst19
  isplitl [HB]; · iexact HB
  iexists _; iexact HO

end Cert.Proof.Cbow
end
-- ==== Proof.Data.lean ====
module

public import proofs.«01_k».proof.Proof.Gather
public import Idealize.ShloMosaic.Lib.Pipeline.Regions
public import Idealize.ShloMosaic.Lib.Ring.FamCut
public import Idealize.ShloMosaic.Lib.Writes

@[expose] public section

noncomputable section

namespace Cert.Proof.Cbow

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)

variable {F : FTy → Type} [FloatOps F]

local notation "𝕄" => MT nD τ sig Unit (Elt F) ℕ (UU nD τ) ℕ

/-! ## The kernels' values, in the contents of their staging buffers -/

/-- Row `w k` of the table. -/
def rowT (c : Dev nD) (fE : Bf (F := F) c (Memref.whole main_arg1)) (w : Fin 20 → BitVec 32) (hw : ∀ k, (w k).toNat < 100000) (k : Fin 20) :
    Vec F S1x64 .f32 := View.read (Elt F) (tabM (w k) (hw k)).view fE

theorem rowV_eq (c : Dev nD) (fE : Bf (F := F) c (Memref.whole main_arg1)) (w : Fin 20 → BitVec 32) (hw : ∀ k, (w k).toNat < 100000) :
    rowV c fE w hw = rowT c fE w hw := by
  funext k x
  unfold rowV rowT
  rw [View.readAt_rect]
  have h := View.read_writes_cons_emb (v := (rowM k).view) (f := (rowM k).view.junk) (Rect.whole S1x64)
    (ReadAs.same.apply (View.read (Elt F) (tabM (w k) (hw k)).view fE)) [] x
  rw [show (Rect.whole S1x64).emb x = x from funext fun a => Fin.ext (by simp [Rect.emb_apply])] at h
  exact h

/-- Word `k` of the staged indices. -/
def wordY (y : Vec F S20 .i32) (k : Fin 20) : BitVec 32 :=
  y ((Rect.unit (s := S20) ![k.val] S1.size (word_inb k)).toLoadRect.idx (Shape.Idx.first (numel1_S1.symm ▸ Nat.one_pos)))

/-- Rows `64 k … 64 k + 63` of the staged first weight. -/
def partY (y : Vec F S1280x128 .f32) (k : Fin 20) : Vec F S64x128 .f32 :=
  fun x => y ((Rect.unit (s := S1280x128) ![64 * k.val, 0] S64x128.size (part_inb k)).toLoadRect.idx x)

/-- A rectangle at offset zero and of the full extents is the whole shape. -/
theorem idx_full2 {n k : Nat} (h : ∀ a, (![0, 0] : Fin 2 → Nat) a + (⟨2, ![n, k]⟩ : Shape).size a ≤ (⟨2, ![n, k]⟩ : Shape).size a)
    (x : (⟨2, ![n, k]⟩ : Shape).Idx) :
    (Rect.unit (s := ⟨2, ![n, k]⟩) ![0, 0] (⟨2, ![n, k]⟩ : Shape).size h).toLoadRect.idx x = x := by
  funext a; apply Fin.ext; fin_cases a <;> simp [LoadRect.idx, Rect.toLoadRect, Rect.unit]

theorem idx_full3 {n k l : Nat} (h : ∀ a, (![0, 0, 0] : Fin 3 → Nat) a + (⟨3, ![n, k, l]⟩ : Shape).size a ≤ (⟨3, ![n, k, l]⟩ : Shape).size a)
    (x : (⟨3, ![n, k, l]⟩ : Shape).Idx) :
    (Rect.unit (s := ⟨3, ![n, k, l]⟩) ![0, 0, 0] (⟨3, ![n, k, l]⟩ : Shape).size h).toLoadRect.idx x = x := by
  funext a; apply Fin.ext; fin_cases a <;> simp [LoadRect.idx, Rect.toLoadRect, Rect.unit]

/-- A load of a whole rank-two buffer reads its contents. -/
theorem readAt_full2 {n k : Nat} {sp : Space} (M : Memref sig .tc sp ⟨2, ![n, k]⟩ .f32)
    (h : ∀ a, (![0, 0] : Fin 2 → Nat) a + (⟨2, ![n, k]⟩ : Shape).size a ≤ (⟨2, ![n, k]⟩ : Shape).size a) (f : M.view.ty.Contents (Elt F)) :
    View.readAt (Elt F) M.view (Rect.unit (s := ⟨2, ![n, k]⟩) ![0, 0] (⟨2, ![n, k]⟩ : Shape).size h).toLoadRect f = View.read (Elt F) M.view f :=
  funext fun x => congrArg (View.read (Elt F) M.view f) (idx_full2 h x)

/-- A buffer stored whole reads as the payload. -/
theorem read_writes_full2 {n k : Nat} {sp : Space} (M : Memref sig .tc sp ⟨2, ![n, k]⟩ .f32)
    (h : ∀ a, (![0, 0] : Fin 2 → Nat) a + (⟨2, ![n, k]⟩ : Shape).size a ≤ (⟨2, ![n, k]⟩ : Shape).size a) (f : M.view.ty.Contents (Elt F))
    (X : Vec F ⟨2, ![n, k]⟩ .f32) :
    View.read (Elt F) M.view (M.view.writes (Elt F) f [⟨Rect.unit (s := ⟨2, ![n, k]⟩) ![0, 0] (⟨2, ![n, k]⟩ : Shape).size h, X⟩]) = X := by
  funext x
  have e := View.read_writes_cons_emb (v := M.view) (f := f) (Rect.unit (s := ⟨2, ![n, k]⟩) ![0, 0] (⟨2, ![n, k]⟩ : Shape).size h) X [] x
  rw [show (Rect.unit (s := ⟨2, ![n, k]⟩) ![0, 0] (⟨2, ![n, k]⟩ : Shape).size h).emb x = x from idx_full2 h x] at e
  exact e
theorem read_writes_full3 {n k l : Nat} {sp : Space} (M : Memref sig .tc sp ⟨3, ![n, k, l]⟩ .f32)
    (h : ∀ a, (![0, 0, 0] : Fin 3 → Nat) a + (⟨3, ![n, k, l]⟩ : Shape).size a ≤ (⟨3, ![n, k, l]⟩ : Shape).size a) (f : M.view.ty.Contents (Elt F))
    (X : Vec F ⟨3, ![n, k, l]⟩ .f32) :
    View.read (Elt F) M.view (M.view.writes (Elt F) f [⟨Rect.unit (s := ⟨3, ![n, k, l]⟩) ![0, 0, 0] (⟨3, ![n, k, l]⟩ : Shape).size h, X⟩]) = X := by
  funext x
  have e := View.read_writes_cons_emb (v := M.view) (f := f) (Rect.unit (s := ⟨3, ![n, k, l]⟩) ![0, 0, 0] (⟨3, ![n, k, l]⟩ : Shape).size h) X [] x
  rw [show (Rect.unit (s := ⟨3, ![n, k, l]⟩) ![0, 0, 0] (⟨3, ![n, k, l]⟩ : Shape).size h).emb x = x from idx_full3 h x] at e
  exact e

/-- A whole memref at known contents is its buffer at some contents that read so. -/
theorem owns_open (c : Dev nD) {sp : Space} {S : Shape} {e : EltTy} (M : Memref sig .tc sp S e) (h : M.IsWhole) (X : S.Idx → Elt F e) :
    (owns (c : Thread nD τ) M fullShare X : sProp 𝕄) ⊢ iprop(∃ f : Bf (F := F) c M, ⌜View.read (Elt F) M.view f = X⌝ ∗ pt c M f) := by
  unfold owns; rw [h.set_eq_univ]
theorem owns_close (c : Dev nD) {sp : Space} {S : Shape} {e : EltTy} (M : Memref sig .tc sp S e) (h : M.IsWhole) (X : S.Idx → Elt F e)
    (f : Bf (F := F) c M) (hf : View.read (Elt F) M.view f = X) :
    (pt c M f : sProp 𝕄) ⊢ owns (c : Thread nD τ) M fullShare X := by
  unfold owns; rw [h.set_eq_univ]
  iintro H; iexists f; isplitr; · ipureintro; exact hf
  iexact H

/-! ## The first region's proof data -/

/-- What the fetch of window `w` at point `t` leaves in a staging buffer that held `d`. -/
def ftch0 (c : Dev nD) (V : (b : Ref sig .tc) → Buf (Elt F) ((c : Thread nD τ).loc b)) (w : Fin cfg0.W) (t : Fin cfg0.N)
    (d : (cfg0.win w).block.Idx → Elt F (cfg0.win w).elt) : (cfg0.win w).block.Idx → Elt F (cfg0.win w).elt :=
  (cfg0.win w).fill (cfg0.grid.coords t) d (((cfg0.win w).blk t).view.read (Elt F) (V (Pipeline.arrRef spec0 w)))

/-- The five input blocks a point may find staged. -/
structure Ins (c : Dev nD) (V : (b : Ref sig .tc) → Buf (Elt F) ((c : Thread nD τ).loc b)) (t : Fin cfg0.N)
    (y0 : Vec F S20 .i32) (y1 : Vec F S1280x128 .f32) (y2 : Vec F S1x128 .f32) (y3 : Vec F S128x8192 .f32) (y4 : Vec F S1x8192 .f32) : Prop where
  e0 : ∃ d, y0 = ftch0 c V 0 t d
  e1 : ∃ d, y1 = ftch0 c V 1 t d
  e2 : ∃ d, y2 = ftch0 c V 2 t d
  e3 : ∃ d, y3 = ftch0 c V 3 t d
  e4 : ∃ d, y4 = ftch0 c V 4 t d

/-- What a point may store as its block of logits. -/
def ZRel (c : Dev nD) (V : (b : Ref sig .tc) → Buf (Elt F) ((c : Thread nD τ).loc b)) (t : Fin cfg0.N) (X : Vec F S1x8192 .f32) : Prop :=
  ∃ y0 y1 y2 y3 y4, Ins c V t y0 y1 y2 y3 y4 ∧ ∃ hw : ∀ k, (wordY y0 k).toNat < 100000,
    X = zV (rowT c (V main_arg1) (wordY y0) hw) (partY y1) y2 y3 y4

/-- What a point may store as its block of statistics. -/
def SRel (c : Dev nD) (V : (b : Ref sig .tc) → Buf (Elt F) ((c : Thread nD τ).loc b)) (t : Fin cfg0.N) (X : Vec F S1x8x128 .f32) : Prop :=
  ∃ y0 y1 y2 y3 y4, Ins c V t y0 y1 y2 y3 y4 ∧ ∃ hw : ∀ k, (wordY y0 k).toNat < 100000,
    X = stV (BitVec.ofNat 32 (grid0.coords t 0)) (rowT c (V main_arg1) (wordY y0) hw) (partY y1) y2 y3 y4

/-- The first region's invariant: the table, the copies' semaphore at zero, the scratch at something. -/
def Φ0 (c : Dev nD) (fE : Bf (F := F) c (Memref.whole main_arg1)) : sProp 𝕄 :=
  iprop(pt c (Memref.whole main_arg1) fE ∗ semVal ((c : Thread nD τ), SemLoc.dma 11) 0
    ∗ Pipeline.scopedRest (Ix := Unit) (Name := ℕ) (U := UU nD τ) (Lvl := ℕ) (Val := Elt F) spec0 c)

/-- The first region's proof data. The blocks of the last two inputs are cut at the vocabulary's end and the rest of their staging
    buffers is anything, so the stored blocks are only related to what was staged. -/
def rd0 (c : Dev nD) (V : (b : Ref sig .tc) → Buf (Elt F) ((c : Thread nD τ).loc b)) : RDat τ (Elt F) Unit ℕ (UU nD τ) ℕ cfg0 c where
  A w := V (Pipeline.arrRef spec0 w)
  after w t Y X := match w with
    | ⟨0, _⟩ => X = Y
    | ⟨1, _⟩ => X = Y
    | ⟨2, _⟩ => X = Y
    | ⟨3, _⟩ => X = Y
    | ⟨4, _⟩ => X = Y
    | ⟨5, _⟩ => ZRel c V t X
    | ⟨6, _⟩ => SRel c V t X
  Φ _ := Φ0 c (V main_arg1)
  q _ := fullShare
  owed _ := 0

/-- A window that keeps its block at every point, is never written back and is left as found holds its block throughout. -/
theorem finds_const {cfg : Cfg sig Λ₀} {c : Dev nD} (rd : RDat τ (Elt F) Unit ℕ (UU nD τ) ℕ cfg c) (w : Fin cfg.W)
    (hx : ∀ t Y X, rd.after w t Y X → X = Y) (hf : ∀ t, (cfg.win w).flush t = false) (hi : ∀ t t', (cfg.win w).index t = (cfg.win w).index t')
    (hc : ∀ t t', (cfg.win w).clip (cfg.grid.coords t) = (cfg.win w).clip (cfg.grid.coords t'))
    (h0 : ∀ t : Fin cfg.N, t.val = 0 → (cfg.win w).fetch t = true) :
    ∀ (n : Nat) (t : Fin cfg.N), t.val = n → ∀ X, rd.Finds w t X → ∃ d, X = rd.fetched w t d := by
  intro n
  induction n with
  | zero => intro t ht X hX; exact (rd.finds_of_fetch (h0 t ht) X).mp hX
  | succ n ih =>
    intro t ht X hX
    by_cases hft : (cfg.win w).fetch t = true
    · exact (rd.finds_of_fetch hft X).mp hX
    · rw [rd.finds_of_pos (Bool.eq_false_iff.mpr hft) (by omega)] at hX
      rcases hX with h | ⟨Y, hY, hYX⟩
      · rw [hf] at h; exact absurd h Bool.false_ne_true
      · obtain ⟨d, hd⟩ := ih ⟨t.val - 1, _⟩ (by simp; omega) Y hY
        exact ⟨d, (hx _ _ _ hYX).trans (hd.trans (rd.fetched_congr w (hi _ _) (hc _ _) d))⟩

/-- What the body finds of the inputs at a point. -/
theorem ins_of_finds (c : Dev nD) (V : (b : Ref sig .tc) → Buf (Elt F) ((c : Thread nD τ).loc b)) (t : Fin cfg0.N)
    (Y : (w : Fin cfg0.W) → (cfg0.win w).block.Idx → Elt F (cfg0.win w).elt) (hY : ∀ w, (rd0 c V).Finds w t (Y w)) :
    Ins c V t (Y 0) (Y 1) (Y 2) (Y 3) (Y 4) where
  e0 := finds_const (rd0 c V) 0 (fun _ _ _ h => h) (fun _ => rfl) (fun _ _ => rfl) (fun _ _ => rfl) (fun t h => (fetch0_0 t).mpr (by omega)) _ t rfl _ (hY 0)
  e1 := finds_const (rd0 c V) 1 (fun _ _ _ h => h) (fun _ => rfl) (fun _ _ => rfl) (fun _ _ => rfl) (fun t h => (fetch0_1 t).mpr (by omega)) _ t rfl _ (hY 1)
  e2 := finds_const (rd0 c V) 2 (fun _ _ _ h => h) (fun _ => rfl) (fun _ _ => rfl) (fun _ _ => rfl) (fun t h => (fetch0_2 t).mpr (by omega)) _ t rfl _ (hY 2)
  e3 := ((rd0 c V).finds_of_fetch (fetch0_3 t) _).mp (hY 3)
  e4 := ((rd0 c V).finds_of_fetch (fetch0_4 t) _).mp (hY 4)

/-- Inside the array, a staged block reads the array. -/
theorem ftch0_at (c : Dev nD) (V : (b : Ref sig .tc) → Buf (Elt F) ((c : Thread nD τ).loc b)) (w : Fin cfg0.W) (t : Fin cfg0.N) (d)
    (j : (cfg0.win w).block.Idx) (x : (cfg0.win w).shape.Idx) (hm : ∀ a, (j a).val < (cfg0.win w).xsize (cfg0.grid.coords t) a)
    (hx : ∀ a, (x a).val = (cfg0.win w).kind.off ((cfg0.win w).index t a) ((cfg0.win w).size a) + (j a).val) :
    ftch0 c V w t d j = View.read (Elt F) (cfg0.win w).arr.view (V (Pipeline.arrRef spec0 w)) x := by
  unfold ftch0 Window.fill
  rw [dif_pos (((cfg0.win w).moved_iff _ j).mpr hm), View.read_apply, View.read_apply]
  show _root_.cast _ (V (Pipeline.arrRef spec0 w) ((cfg0.win w).arr.view.emb (((cfg0.win w).rect t).emb _)))
    = _root_.cast _ (V (Pipeline.arrRef spec0 w) ((cfg0.win w).arr.view.emb x))
  congr 3
  funext a; apply Fin.ext
  rw [Rect.emb_apply, hx a]
  show (cfg0.win w).kind.off ((cfg0.win w).index t a) ((cfg0.win w).size a) + 1 * (j a).val = _
  rw [Nat.one_mul]

/-- The indices are staged as they are. -/
theorem word_stage (c : Dev nD) (V : (b : Ref sig .tc) → Buf (Elt F) ((c : Thread nD τ).loc b)) (t : Fin cfg0.N) (d) (x : S20.Idx) :
    (show Vec F S20 .i32 from ftch0 c V 0 t d) x = (show Vec F S20 .i32 from V main_arg0) x :=
  ftch0_at c V 0 t d x x (fun a => (x a).isLt) fun a => by
    fin_cases a; exact (Nat.zero_add _).symm

theorem words_lt (c : Dev nD) (V : (b : Ref sig .tc) → Buf (Elt F) ((c : Thread nD τ).loc b)) (t : Fin cfg0.N)
    (hV : ∀ x, ((show Vec F S20 .i32 from V main_arg0) x : BitVec 32).toNat < 100000) {y0 y1 y2 y3 y4} (h : Ins c V t y0 y1 y2 y3 y4) (x : S20.Idx) :
    (y0 x : BitVec 32).toNat < 100000 := by
  obtain ⟨d, rfl⟩ := h.e0
  have e : ftch0 c V 0 t d x = (show Vec F S20 .i32 from V main_arg0) x := word_stage c V t d x
  rw [e]; exact hV x

/-! ## The table and the scratch, cut and joined -/

/-- The table lent as twenty windows, each at its own share, and what is kept. -/
def tabRest (c : Dev nD) (fE : Bf (F := F) c (Memref.whole main_arg1)) (w : Fin 20 → BitVec 32) (hw : ∀ k, (w k).toNat < 100000) : sProp 𝕄 :=
  iprop(((Memref.whole main_arg1 : Memref sig .tc _ _ _).view.loc (c : Thread nD τ) ↦{Transfers.shareDrop fullShare 20} fE)
    ∗ bigSep Finset.univ fun k : Fin 20 => ((Memref.whole main_arg1 : Memref sig .tc _ _ _).view.loc (c : Thread nD τ) ↦[Finset.univ \ (tabM (w k) (hw k)).view.set]{tok k} fE))

theorem splitAt (c : Dev nD) {fE : Bf (F := F) c (Memref.whole main_arg1)} (q : PosShare TreeShare) (I : Finset (Idx ((Memref.whole main_arg1 : Memref sig .tc _ _ _).view.loc (c : Thread nD τ)))) :
    ((Memref.whole main_arg1 : Memref sig .tc _ _ _).view.loc (c : Thread nD τ) ↦{q} fE : sProp 𝕄)
      ⊣⊢ iprop(((Memref.whole main_arg1 : Memref sig .tc _ _ _).view.loc (c : Thread nD τ) ↦[I]{q} fE)
        ∗ ((Memref.whole main_arg1 : Memref sig .tc _ _ _).view.loc (c : Thread nD τ) ↦[Finset.univ \ I]{q} fE)) :=
  pointsTo_split_subset (Finset.subset_univ _)

theorem tab_cut (c : Dev nD) (fE : Bf (F := F) c (Memref.whole main_arg1)) (w : Fin 20 → BitVec 32) (hw : ∀ k, (w k).toNat < 100000) :
    (pt c (Memref.whole main_arg1) fE : sProp 𝕄) ⊣⊢ iprop((bigSep Finset.univ fun k : Fin 20 => ((tabM (w k) (hw k)).view.loc (c : Thread nD τ) ↦[(tabM (w k) (hw k)).view.set]{tok k} fE))
      ∗ tabRest c fE w hw) := by
  have e : ∀ k : Fin 20, (((Memref.whole main_arg1 : Memref sig .tc _ _ _).view.loc (c : Thread nD τ) ↦{tok k} fE : sProp 𝕄))
      = iprop(((tabM (w k) (hw k)).view.loc (c : Thread nD τ) ↦[(tabM (w k) (hw k)).view.set]{tok k} fE)
        ∗ ((Memref.whole main_arg1 : Memref sig .tc _ _ _).view.loc (c : Thread nD τ) ↦[Finset.univ \ (tabM (w k) (hw k)).view.set]{tok k} fE)) :=
    fun k => BI.equiv_iff.mp ⟨(splitAt c (fE := fE) (tok k) (tabM (w k) (hw k)).view.set).1, (splitAt c (fE := fE) (tok k) (tabM (w k) (hw k)).view.set).2⟩
  have h := Transfers.pointsTo_toks (Ix := Unit) (Name := ℕ) (U := UU nD τ) (Lvl := ℕ) (ℓ := (Memref.whole main_arg1 : Memref sig .tc _ _ _).view.loc (c : Thread nD τ)) (S := Finset.univ) (f := fE) fullShare 20
  rw [show (fun i : Fin 20 => ((Memref.whole main_arg1 : Memref sig .tc _ _ _).view.loc (c : Thread nD τ) ↦{Transfers.shareTok fullShare 20 i} fE : sProp 𝕄))
    = fun k => iprop(((tabM (w k) (hw k)).view.loc (c : Thread nD τ) ↦[(tabM (w k) (hw k)).view.set]{tok k} fE)
        ∗ ((Memref.whole main_arg1 : Memref sig .tc _ _ _).view.loc (c : Thread nD τ) ↦[Finset.univ \ (tabM (w k) (hw k)).view.set]{tok k} fE)) from funext e, bigSep_sep'] at h
  unfold tabRest
  constructor
  · iintro H
    ihave H := h.1 $$ H
    icases H with ⟨H1, H2, H3⟩
    isplitl [H2]; · iexact H2
    isplitl [H1] <;> iassumption
  · iintro ⟨H1, H2, H3⟩
    iapply h.2
    isplitl [H2]; · iexact H2
    isplitl [H1] <;> iassumption

theorem rows_disjoint : ∀ b b' : Fin 20, b ≠ b' → Disjoint (rowM b).view.set (rowM b').view.set := by
  intro b b' h
  refine View.disjoint_slice_of_disj _ _ _ ?_
  revert b b'; decide

end Cert.Proof.Cbow
end
-- ==== Proof.Body.lean ====
module

public import proofs.«01_k».proof.Proof.Data

@[expose] public section

noncomputable section

namespace Cert.Proof.Cbow

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)

variable {F : FTy → Type} [FloatOps F]

local notation "𝕄" => MT nD τ sig Unit (Elt F) ℕ (UU nD τ) ℕ

/-- The scratch as its twenty rows at some contents, and the rest of it. -/
theorem scr_cut (c : Dev nD) :
    (iprop(∃ f : Buf (Elt F) ((c : Thread nD τ).loc cc0_scratch0), ((c : Thread nD τ).loc cc0_scratch0) ↦{fullShare} f) : sProp 𝕄)
      ⊢ iprop((∃ fd : (k : Fin 20) → Bf (F := F) c (rowM k), bigSep Finset.univ fun k : Fin 20 => ((rowM k).view.loc (c : Thread nD τ) ↦[(rowM k).view.set]{fullShare} fd k))
        ∗ ∃ f : Buf (Elt F) ((c : Thread nD τ).loc cc0_scratch0), ((c : Thread nD τ).loc cc0_scratch0) ↦[Ring.restOf fun k : Fin 20 => (rowM k).view.set]{fullShare} f) := by
  iintro H
  ihave H := (Ring.fam_split_ex (Ix := Unit) (Name := ℕ) (U := UU nD τ) (Lvl := ℕ) (Val := Elt F) (ℓ := (c : Thread nD τ).loc cc0_scratch0) (fun k : Fin 20 => (rowM k).view.set) rows_disjoint) $$ H
  icases H with ⟨H1, H2⟩
  isplitl [H1]
  · haveI : Nonempty (Buf (Elt F) ((c : Thread nD τ).loc cc0_scratch0)) := ⟨(rowM 0).view.junk⟩
    ihave H := (bigSep_exists_pi Finset.univ (fun (k : Fin 20) (f : Buf (Elt F) ((c : Thread nD τ).loc cc0_scratch0)) => (((c : Thread nD τ).loc cc0_scratch0) ↦[(rowM k).view.set]{fullShare} f : sProp 𝕄))) $$ H1
    iexact H
  · iexact H2

/-- Back from the rows. -/
theorem scr_join (c : Dev nD) :
    (iprop((bigSep Finset.univ fun k : Fin 20 => iprop(∃ f, (rowM k).view.loc (c : Thread nD τ) ↦[(rowM k).view.set]{fullShare} f))
        ∗ ∃ f : Buf (Elt F) ((c : Thread nD τ).loc cc0_scratch0), ((c : Thread nD τ).loc cc0_scratch0) ↦[Ring.restOf fun k : Fin 20 => (rowM k).view.set]{fullShare} f) : sProp 𝕄)
      ⊢ iprop(∃ f : Buf (Elt F) ((c : Thread nD τ).loc cc0_scratch0), ((c : Thread nD τ).loc cc0_scratch0) ↦{fullShare} f) :=
  Ring.fam_join (Ix := Unit) (Name := ℕ) (U := UU nD τ) (Lvl := ℕ) (Val := Elt F) (ℓ := (c : Thread nD τ).loc cc0_scratch0) (fun k : Fin 20 => (rowM k).view.set) rows_disjoint (rowM 0).view.junk

theorem zV_read (c : Dev nD) (fE : Bf (F := F) c (Memref.whole main_arg1)) (w : Fin 20 → BitVec 32) (hw : ∀ k, (w k).toNat < 100000)
    (M1 : Memref sig .tc .vmem S1280x128 .f32) (M2 : Memref sig .tc .vmem S1x128 .f32) (M3 : Memref sig .tc .vmem S128x8192 .f32) (M4 : Memref sig .tc .vmem S1x8192 .f32)
    (f1 : Bf (F := F) c M1) (f2 : Bf (F := F) c M2) (f3 : Bf (F := F) c M3) (f4 : Bf (F := F) c M4) :
    zV (rowV c fE w hw) (partV c M1 f1) (b1L c M2 f2) (w2L c M3 f3) (b2L c M4 f4)
      = zV (rowT c fE w hw) (partY (View.read (Elt F) M1.view f1)) (View.read (Elt F) M2.view f2) (View.read (Elt F) M3.view f3) (View.read (Elt F) M4.view f4) := by
  rw [rowV_eq, show b1L c M2 f2 = _ from readAt_full2 M2 _ f2, show w2L c M3 f3 = _ from readAt_full2 M3 _ f3, show b2L c M4 f4 = _ from readAt_full2 M4 _ f4]; rfl
theorem stV_read (i : BitVec 32) (c : Dev nD) (fE : Bf (F := F) c (Memref.whole main_arg1)) (w : Fin 20 → BitVec 32) (hw : ∀ k, (w k).toNat < 100000)
    (M1 : Memref sig .tc .vmem S1280x128 .f32) (M2 : Memref sig .tc .vmem S1x128 .f32) (M3 : Memref sig .tc .vmem S128x8192 .f32) (M4 : Memref sig .tc .vmem S1x8192 .f32)
    (f1 : Bf (F := F) c M1) (f2 : Bf (F := F) c M2) (f3 : Bf (F := F) c M3) (f4 : Bf (F := F) c M4) :
    stV i (rowV c fE w hw) (partV c M1 f1) (b1L c M2 f2) (w2L c M3 f3) (b2L c M4 f4)
      = stV i (rowT c fE w hw) (partY (View.read (Elt F) M1.view f1)) (View.read (Elt F) M2.view f2) (View.read (Elt F) M3.view f3) (View.read (Elt F) M4.view f4) := by
  rw [rowV_eq, show b1L c M2 f2 = _ from readAt_full2 M2 _ f2, show w2L c M3 f3 = _ from readAt_full2 M3 _ f3, show b2L c M4 f4 = _ from readAt_full2 M4 _ f4]; rfl

/-- One point of the first kernel, in the contents its memrefs read at. -/
theorem logitsPoint (c : Dev nD) (t : Fin grid0.N)
    (M0 : Memref sig .tc .smem S20 .i32) (h0 : M0.IsWhole) (M1 : Memref sig .tc .vmem S1280x128 .f32) (h1 : M1.IsWhole)
    (M2 : Memref sig .tc .vmem S1x128 .f32) (h2 : M2.IsWhole) (M3 : Memref sig .tc .vmem S128x8192 .f32) (h3 : M3.IsWhole)
    (M4 : Memref sig .tc .vmem S1x8192 .f32) (h4 : M4.IsWhole) (M5 : Memref sig .tc .vmem S1x8192 .f32) (h5 : M5.IsWhole)
    (M6 : Memref sig .tc .vmem S1x8x128 .f32) (h6 : M6.IsWhole)
    (y0 : Vec F S20 .i32) (y1 : Vec F S1280x128 .f32) (y2 : Vec F S1x128 .f32) (y3 : Vec F S128x8192 .f32) (y4 : Vec F S1x8192 .f32)
    (y5 : Vec F S1x8192 .f32) (y6 : Vec F S1x8x128 .f32) (fE : Bf (F := F) c (Memref.whole main_arg1))
    (hw : ∀ x, (show BitVec 32 from y0 x).toNat < 100000) (hw' : ∀ k, (wordY y0 k).toNat < 100000) (W : Waits sig Unit) (Q : PUnit → sProp 𝕄) :
    iprop(owns (c : Thread nD τ) M0 fullShare y0 ∗ owns (c : Thread nD τ) M1 fullShare y1 ∗ owns (c : Thread nD τ) M2 fullShare y2
      ∗ owns (c : Thread nD τ) M3 fullShare y3 ∗ owns (c : Thread nD τ) M4 fullShare y4 ∗ owns (c : Thread nD τ) M5 fullShare y5
      ∗ owns (c : Thread nD τ) M6 fullShare y6 ∗ pt c (Memref.whole main_arg1) fE
      ∗ (∃ f : Buf (Elt F) ((c : Thread nD τ).loc cc0_scratch0), ((c : Thread nD τ).loc cc0_scratch0) ↦{fullShare} f)
      ∗ semVal ((c : Thread nD τ), SemLoc.dma 11) 0 ∗ owes (c : Thread nD τ) 0 W
      ∗ (iprop(owns (c : Thread nD τ) M0 fullShare y0 ∗ owns (c : Thread nD τ) M1 fullShare y1 ∗ owns (c : Thread nD τ) M2 fullShare y2
        ∗ owns (c : Thread nD τ) M3 fullShare y3 ∗ owns (c : Thread nD τ) M4 fullShare y4
        ∗ owns (c : Thread nD τ) M5 fullShare (zV (rowT c fE (wordY y0) hw') (partY y1) y2 y3 y4)
        ∗ owns (c : Thread nD τ) M6 fullShare (stV (BitVec.ofNat 32 (grid0.coords t 0)) (rowT c fE (wordY y0) hw') (partY y1) y2 y3 y4)
        ∗ pt c (Memref.whole main_arg1) fE
        ∗ (∃ f : Buf (Elt F) ((c : Thread nD τ).loc cc0_scratch0), ((c : Thread nD τ).loc cc0_scratch0) ↦{fullShare} f)
        ∗ semVal ((c : Thread nD τ), SemLoc.dma 11) 0 ∗ ∃ W, owes (c : Thread nD τ) 0 W) -∗ Q ⟨⟩))
    ⊢ wp frame (wpE (defs₀ (F := F)) Variants.none c none) Set.univ
        (cc0__logits_kernel (grid0.coords t) M0 h0 (Memref.whole main_arg1) (Memref.isWhole_whole _) M1 h1 M2 h2 M3 h3 M4 h4 M5 h5 M6 h6
          (Memref.whole cc0_scratch0) (Memref.isWhole_whole _) cc0_scratch1) Q := by
  iintro ⟨H0, H1, H2, H3, H4, H5, H6, HE, HS, Hd, HO, Hk⟩
  ihave H0 := (owns_open c M0 h0 y0) $$ H0
  icases H0 with ⟨%f0, %e0, H0⟩
  ihave H1 := (owns_open c M1 h1 y1) $$ H1
  icases H1 with ⟨%f1, %e1, H1⟩
  ihave H2 := (owns_open c M2 h2 y2) $$ H2
  icases H2 with ⟨%f2, %e2, H2⟩
  ihave H3 := (owns_open c M3 h3 y3) $$ H3
  icases H3 with ⟨%f3, %e3, H3⟩
  ihave H4 := (owns_open c M4 h4 y4) $$ H4
  icases H4 with ⟨%f4, %e4, H4⟩
  ihave H5 := (owns_open c M5 h5 y5) $$ H5
  icases H5 with ⟨%f5, %e5, H5⟩
  ihave H6 := (owns_open c M6 h6 y6) $$ H6
  icases H6 with ⟨%f6, %e6, H6⟩
  subst e0 e1 e2 e3 e4
  ihave HE := (tab_cut c fE (word c M0 f0) hw').1 $$ HE
  icases HE with ⟨HE, HR⟩
  ihave HS := (scr_cut c) $$ HS
  icases HS with ⟨⟨%fd, HS⟩, HSr⟩
  have ez : zV (rowV c fE (word c M0 f0) hw') (partV c M1 f1) (b1L c M2 f2) (w2L c M3 f3) (b2L c M4 f4)
      = zV (rowT c fE (wordY (View.read (Elt F) M0.view f0)) hw') (partY (View.read (Elt F) M1.view f1)) (View.read (Elt F) M2.view f2)
        (View.read (Elt F) M3.view f3) (View.read (Elt F) M4.view f4) := zV_read c fE (word c M0 f0) hw' M1 M2 M3 M4 f1 f2 f3 f4
  have es : stV (BitVec.ofNat 32 (grid0.coords t 0)) (rowV c fE (word c M0 f0) hw') (partV c M1 f1) (b1L c M2 f2) (w2L c M3 f3) (b2L c M4 f4)
      = stV (BitVec.ofNat 32 (grid0.coords t 0)) (rowT c fE (wordY (View.read (Elt F) M0.view f0)) hw') (partY (View.read (Elt F) M1.view f1)) (View.read (Elt F) M2.view f2)
        (View.read (Elt F) M3.view f3) (View.read (Elt F) M4.view f4) := stV_read _ c fE (word c M0 f0) hw' M1 M2 M3 M4 f1 f2 f3 f4
  rw [← ez, ← es]
  iapply (logitsRun c t M0 h0 M1 h1 M2 h2 M3 h3 M4 h4 M5 h5 M6 h6 f0 f1 f2 f3 f4 f5 f6 fE fd (fun r x => hw (r.idx x)) hw' W Q)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HE]; · iexact HE
  isplitl [HS]; · iexact HS
  isplitl [Hd]; · iexact Hd
  isplitl [HO]; · iexact HO
  iintro ⟨H0, H1, H2, H3, H4, H5, H6, HE, HS, Hd, HO⟩
  iapply Hk
  isplitl [H0]; · iapply (owns_close c M0 h0 _ f0 rfl); iexact H0
  isplitl [H1]; · iapply (owns_close c M1 h1 _ f1 rfl); iexact H1
  isplitl [H2]; · iapply (owns_close c M2 h2 _ f2 rfl); iexact H2
  isplitl [H3]; · iapply (owns_close c M3 h3 _ f3 rfl); iexact H3
  isplitl [H4]; · iapply (owns_close c M4 h4 _ f4 rfl); iexact H4
  isplitl [H5]; · iapply (owns_close c M5 h5 _ _ (read_writes_full2 M5 _ f5 _)); iexact H5
  isplitl [H6]; · iapply (owns_close c M6 h6 _ _ (read_writes_full3 M6 _ f6 _)); iexact H6
  isplitl [HE HR]
  · iapply (tab_cut c fE (word c M0 f0) hw').2
    isplitl [HE] <;> iassumption
  isplitl [HS HSr]
  · iapply (scr_join c)
    isplitl [HS] <;> iassumption
  isplitl [Hd]; · iexact Hd
  iexact HO

theorem defs₀_row0 (t : Fin cfg0.N) : defs₀ (F := F) .tc cfg0.body (cfg0.bodyArgs t (cfg0.slots t)) = bodyAt0 t := by
  unfold defs₀; rw [Defs.onTc_tc]

/-- The first region's body, at every point. -/
theorem body0 (c : Dev nD) (V : (b : Ref sig .tc) → Buf (Elt F) ((c : Thread nD τ).loc b))
    (hV : ∀ x, ((show Vec F S20 .i32 from V main_arg0) x : BitVec 32).toNat < 100000) :
    (rd0 c V).BodyObligation defs₀ Variants.none () Set.univ := fun t Y hY => by
  have hi := ins_of_finds c V t Y hY
  have hw := words_lt c V t hV hi
  have hw' : ∀ k, (wordY (Y 0) k).toNat < 100000 := fun k => hw _
  rw [bigSep_W0, bigSep_W0, defs₀_row0]
  unfold bodyAt0
  rw [show (rd0 c V).Φ t.succ = Φ0 c (V main_arg1) from rfl, show (rd0 c V).Φ t.castSucc = Φ0 c (V main_arg1) from rfl]
  unfold RDat.owesAt Pipeline.owesWithin Φ0
  rw [scopedRest0_eq]
  iintro ⟨⟨HE, Hd, HS, HT⟩, ⟨%W, %hW, HO⟩, H0, H1, H2, H3, H4, H5, H6⟩
  iapply (logitsPoint c t (win0_0.stage (cfg0.slots t 0)) (hstage0_0 ((cfg0.slots t 0).cast nbuf0_0)) (win0_1.stage (cfg0.slots t 1)) (hstage0_1 ((cfg0.slots t 1).cast nbuf0_1))
    (win0_2.stage (cfg0.slots t 2)) (hstage0_2 ((cfg0.slots t 2).cast nbuf0_2)) (win0_3.stage (cfg0.slots t 3)) (hstage0_3 ((cfg0.slots t 3).cast nbuf0_3))
    (win0_4.stage (cfg0.slots t 4)) (hstage0_4 ((cfg0.slots t 4).cast nbuf0_4)) (win0_5.stage (cfg0.slots t 5)) (hstage0_5 ((cfg0.slots t 5).cast nbuf0_5))
    (win0_6.stage (cfg0.slots t 6)) (hstage0_6 ((cfg0.slots t 6).cast nbuf0_6)) (Y 0) (Y 1) (Y 2) (Y 3) (Y 4) (Y 5) (Y 6) (V main_arg1) hw hw' W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HE]; · iexact HE
  isplitl [HS]; · iexact HS
  isplitl [Hd]; · iexact Hd
  isplitl [HO]; · iexact HO
  iintro ⟨H0, H1, H2, H3, H4, H5, H6, HE, HS, Hd, ⟨%W', HO⟩⟩
  isplitl [HE Hd HS HT]
  · isplitl [HE]; · iexact HE
    isplitl [Hd]; · iexact Hd
    isplitl [HS]; · iexact HS
    iexact HT
  isplitl [HO]
  · iexists W'; isplitr; · ipureintro; exact fun _ _ => Or.inl trivial
    iexact HO
  isplitl [H0]; · iexists _; isplitr; swap; (· iexact H0); ipureintro; rfl
  isplitl [H1]; · iexists _; isplitr; swap; (· iexact H1); ipureintro; rfl
  isplitl [H2]; · iexists _; isplitr; swap; (· iexact H2); ipureintro; rfl
  isplitl [H3]; · iexists _; isplitr; swap; (· iexact H3); ipureintro; rfl
  isplitl [H4]; · iexists _; isplitr; swap; (· iexact H4); ipureintro; rfl
  isplitl [H5]; · iexists _; isplitr; swap; (· iexact H5); ipureintro; exact ⟨_, _, _, _, _, hi, hw', rfl⟩
  iexists _; isplitr; swap; (· iexact H6); ipureintro; exact ⟨_, _, _, _, _, hi, hw', rfl⟩

end Cert.Proof.Cbow
end
-- ==== Proof.Norm.lean ====
module

public import proofs.«01_k».proof.Proof.Data

@[expose] public section

noncomputable section

namespace Cert.Proof.Cbow

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)

variable {F : FTy → Type} [FloatOps F]

local notation "𝕄" => MT nD τ sig Unit (Elt F) ℕ (UU nD τ) ℕ

/-! ## The second region -/

/-- What the second kernel stores, from the staged statistics and the staged block of logits. -/
def outV (s : Vec F S13x8x128 .f32) (z : Vec F S1x8192 .f32) : Vec F S1x8192 .f32 :=
  k1_pay1 (fun x => s ((Rect.unit (s := S13x8x128) ![0, 0, 0] S13x1x1.size inb_S13x8x128_S13x1x1_0_0_0).toLoadRect.idx x))
    (fun x => s ((Rect.unit (s := S13x8x128) ![0, 0, 1] S13x1x1.size inb_S13x8x128_S13x1x1_0_0_1).toLoadRect.idx x)) z

/-- One point of the second kernel. -/
theorem normRun (c : Dev nD) (t : Fin grid1.N)
    (M0 : Memref sig .tc .vmem S13x8x128 .f32) (h0 : M0.IsWhole) (M1 : Memref sig .tc .vmem S1x8192 .f32) (h1 : M1.IsWhole)
    (M2 : Memref sig .tc .vmem S1x8192 .f32) (h2 : M2.IsWhole)
    (f0 : Bf (F := F) c M0) (f1 : Bf (F := F) c M1) (f2 : Bf (F := F) c M2) (W : Waits sig Unit) (Q : PUnit → sProp 𝕄) :
    iprop(pt c M0 f0 ∗ pt c M1 f1 ∗ pt c M2 f2 ∗ owes (c : Thread nD τ) 0 W
      ∗ (iprop(pt c M0 f0 ∗ pt c M1 f1
        ∗ pt c M2 (M2.view.writes (Elt F) f2 [⟨Rect.unit ![0, 0] S1x8192.size inb_S1x8192_S1x8192_0_0,
            k1_pay1 (View.readAt (Elt F) M0.view (Rect.unit (s := S13x8x128) ![0, 0, 0] S13x1x1.size inb_S13x8x128_S13x1x1_0_0_0).toLoadRect f0)
              (View.readAt (Elt F) M0.view (Rect.unit (s := S13x8x128) ![0, 0, 1] S13x1x1.size inb_S13x8x128_S13x1x1_0_0_1).toLoadRect f0)
              (View.readAt (Elt F) M1.view (Rect.unit (s := S1x8192) ![0, 0] S1x8192.size inb_S1x8192_S1x8192_0_0).toLoadRect f1)⟩])
        ∗ ∃ W, owes (c : Thread nD τ) 0 W) -∗ Q ⟨⟩))
    ⊢ wp frame (wpE (defs₀ (F := F)) Variants.none c none) Set.univ (cc1__normalize_kernel (grid1.coords t) M0 h0 M1 h1 M2 h2) Q := by
  rw [cc1__normalize_kernel_eq_skeleton]; unfold cc1__normalize_kernel_skel
  iintro ⟨H0, H1, H2, HO, Hk⟩
  sl_exec
  sl_step
  iapply Hk
  isplitl [H0]; · iexact H0
  isplitl [H1]; · iexact H1
  isplitl [H2]; · iexact H2
  iexists _; iexact HO

theorem outV_read (c : Dev nD) (M0 : Memref sig .tc .vmem S13x8x128 .f32) (M1 : Memref sig .tc .vmem S1x8192 .f32) (f0 : Bf (F := F) c M0) (f1 : Bf (F := F) c M1) :
    k1_pay1 (View.readAt (Elt F) M0.view (Rect.unit (s := S13x8x128) ![0, 0, 0] S13x1x1.size inb_S13x8x128_S13x1x1_0_0_0).toLoadRect f0)
        (View.readAt (Elt F) M0.view (Rect.unit (s := S13x8x128) ![0, 0, 1] S13x1x1.size inb_S13x8x128_S13x1x1_0_0_1).toLoadRect f0)
        (View.readAt (Elt F) M1.view (Rect.unit (s := S1x8192) ![0, 0] S1x8192.size inb_S1x8192_S1x8192_0_0).toLoadRect f1)
      = outV (View.read (Elt F) M0.view f0) (View.read (Elt F) M1.view f1) := by
  rw [show View.readAt (Elt F) M1.view (Rect.unit (s := S1x8192) ![0, 0] S1x8192.size inb_S1x8192_S1x8192_0_0).toLoadRect f1 = _ from readAt_full2 M1 _ f1]; rfl

/-- The second region's invariant: the buffers it does not stage, at something. -/
def Φ1 (c : Dev nD) : sProp 𝕄 :=
  Pipeline.scopedRest (Ix := Unit) (Name := ℕ) (U := UU nD τ) (Lvl := ℕ) (Val := Elt F) spec1 c

/-- What the fetch of window `w` at point `t` leaves in a staging buffer that held `d`. -/
def ftch1 (c : Dev nD) (V : (b : Ref sig .tc) → Buf (Elt F) ((c : Thread nD τ).loc b)) (w : Fin cfg1.W) (t : Fin cfg1.N)
    (d : (cfg1.win w).block.Idx → Elt F (cfg1.win w).elt) : (cfg1.win w).block.Idx → Elt F (cfg1.win w).elt :=
  (cfg1.win w).fill (cfg1.grid.coords t) d (((cfg1.win w).blk t).view.read (Elt F) (V (Pipeline.arrRef spec1 w)))

/-- What a point may store as its block of the result. -/
def ORel (c : Dev nD) (V : (b : Ref sig .tc) → Buf (Elt F) ((c : Thread nD τ).loc b)) (t : Fin cfg1.N) (X : Vec F S1x8192 .f32) : Prop :=
  ∃ d0 d1, X = outV (ftch1 c V 0 t d0) (ftch1 c V 1 t d1)

/-- The second region's proof data. -/
def rd1 (c : Dev nD) (V : (b : Ref sig .tc) → Buf (Elt F) ((c : Thread nD τ).loc b)) : RDat τ (Elt F) Unit ℕ (UU nD τ) ℕ cfg1 c where
  A w := V (Pipeline.arrRef spec1 w)
  after w t Y X := match w with
    | ⟨0, _⟩ => X = Y
    | ⟨1, _⟩ => X = Y
    | ⟨2, _⟩ => ORel c V t X
  Φ _ := Φ1 c
  q _ := fullShare
  owed _ := 0

theorem ftch1_at (c : Dev nD) (V : (b : Ref sig .tc) → Buf (Elt F) ((c : Thread nD τ).loc b)) (w : Fin cfg1.W) (t : Fin cfg1.N) (d)
    (j : (cfg1.win w).block.Idx) (x : (cfg1.win w).shape.Idx) (hm : ∀ a, (j a).val < (cfg1.win w).xsize (cfg1.grid.coords t) a)
    (hx : ∀ a, (x a).val = (cfg1.win w).kind.off ((cfg1.win w).index t a) ((cfg1.win w).size a) + (j a).val) :
    ftch1 c V w t d j = View.read (Elt F) (cfg1.win w).arr.view (V (Pipeline.arrRef spec1 w)) x := by
  unfold ftch1 Window.fill
  rw [dif_pos (((cfg1.win w).moved_iff _ j).mpr hm), View.read_apply, View.read_apply]
  show _root_.cast _ (V (Pipeline.arrRef spec1 w) ((cfg1.win w).arr.view.emb (((cfg1.win w).rect t).emb _)))
    = _root_.cast _ (V (Pipeline.arrRef spec1 w) ((cfg1.win w).arr.view.emb x))
  congr 3
  funext a; apply Fin.ext
  rw [Rect.emb_apply, hx a]
  show (cfg1.win w).kind.off ((cfg1.win w).index t a) ((cfg1.win w).size a) + 1 * (j a).val = _
  rw [Nat.one_mul]

theorem defs₀_row1 (t : Fin cfg1.N) : defs₀ (F := F) .tc cfg1.body (cfg1.bodyArgs t (cfg1.slots t)) = bodyAt1 t := by
  unfold defs₀; rw [Defs.onTc_tc]

/-- The second region's body, at every point. -/
theorem body1 (c : Dev nD) (V : (b : Ref sig .tc) → Buf (Elt F) ((c : Thread nD τ).loc b)) :
    (rd1 c V).BodyObligation defs₀ Variants.none () Set.univ := fun t Y hY => by
  obtain ⟨d0, hd0⟩ := finds_const (rd1 c V) 0 (fun _ _ _ h => h) (fun _ => rfl) (fun _ _ => rfl) (fun _ _ => rfl) (fun t h => (fetch1_0 t).mpr (by omega)) _ t rfl _ (hY 0)
  obtain ⟨d1, hd1⟩ := ((rd1 c V).finds_of_fetch (fetch1_1 t) _).mp (hY 1)
  rw [bigSep_W1, bigSep_W1, defs₀_row1]
  unfold bodyAt1
  rw [show (rd1 c V).Φ t.succ = Φ1 c from rfl, show (rd1 c V).Φ t.castSucc = Φ1 c from rfl]
  unfold RDat.owesAt Pipeline.owesWithin
  iintro ⟨HS, ⟨%W, %hW, HO⟩, H0, H1, H2⟩
  ihave H0 := (owns_open c (win1_0.stage (cfg1.slots t 0)) (hstage1_0 ((cfg1.slots t 0).cast nbuf1_0)) (Y 0)) $$ H0
  icases H0 with ⟨%f0, %e0, H0⟩
  ihave H1 := (owns_open c (win1_1.stage (cfg1.slots t 1)) (hstage1_1 ((cfg1.slots t 1).cast nbuf1_1)) (Y 1)) $$ H1
  icases H1 with ⟨%f1, %e1, H1⟩
  ihave H2 := (owns_open c (win1_2.stage (cfg1.slots t 2)) (hstage1_2 ((cfg1.slots t 2).cast nbuf1_2)) (Y 2)) $$ H2
  icases H2 with ⟨%f2, %e2, H2⟩
  iapply (normRun c t (win1_0.stage (cfg1.slots t 0)) (hstage1_0 ((cfg1.slots t 0).cast nbuf1_0)) (win1_1.stage (cfg1.slots t 1)) (hstage1_1 ((cfg1.slots t 1).cast nbuf1_1))
    (win1_2.stage (cfg1.slots t 2)) (hstage1_2 ((cfg1.slots t 2).cast nbuf1_2)) f0 f1 f2 W _)
  isplitl [H0]; · iexact H0
  isplitl [H1]; · iexact H1
  isplitl [H2]; · iexact H2
  isplitl [HO]; · iexact HO
  iintro ⟨H0, H1, H2, ⟨%W', HO⟩⟩
  isplitl [HS]; · iexact HS
  isplitl [HO]
  · iexists W'; isplitr; · ipureintro; exact fun _ _ => Or.inl trivial
    iexact HO
  isplitl [H0]
  · iexists (Y 0); isplitr; · ipureintro; rfl
    iapply (owns_close c _ (hstage1_0 ((cfg1.slots t 0).cast nbuf1_0)) _ f0 e0); iexact H0
  isplitl [H1]
  · iexists (Y 1); isplitr; · ipureintro; rfl
    iapply (owns_close c _ (hstage1_1 ((cfg1.slots t 1).cast nbuf1_1)) _ f1 e1); iexact H1
  iexists (outV (Y 0) (Y 1))
  isplitr
  · ipureintro; rw [hd0, hd1]; exact ⟨d0, d1, rfl⟩
  iapply (owns_close c _ (hstage1_2 ((cfg1.slots t 2).cast nbuf1_2)) (outV (Y 0) (Y 1)) _ ((read_writes_full2 (win1_2.stage (cfg1.slots t 2)) _ f2 _).trans
    ((outV_read c (win1_0.stage (cfg1.slots t 0)) (win1_1.stage (cfg1.slots t 1)) f0 f1).trans (congrArg₂ outV e0 e1))))
  iexact H2

end Cert.Proof.Cbow
end
-- ==== Proof.Run.lean ====
module

public import proofs.«01_k».proof.Proof.Body
public import proofs.«01_k».proof.Proof.Norm
public import proofs.«01_k».proof.Proof.Gen.Kernel.Regions
public import Idealize.ShloMosaic.Lib.Pipeline.ArrRel

@[expose] public section

noncomputable section

namespace Cert.Proof.Cbow

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)

variable {F : FTy → Type} [FloatOps F]

local notation "𝕄" => MT nD τ sig Unit (Elt F) ℕ (UU nD τ) ℕ

/-! ## The launch -/

/-- The pipeline library's algebra, once for the launch and once for the two regions run in @main. -/
abbrev EP : Emb (UR sig nD τ) (MT nD τ sig Unit (Elt F) ℕ (UU nD τ) ℕ) := embL
def EP2 : Emb (UR sig nD τ) (MT nD τ sig Unit (Elt F) ℕ (UU nD τ) ℕ) := (Emb.inl : Emb (UR sig nD τ) (UR sig nD τ × Counters)).trans embR

instance : (EP2 : Emb (UR sig nD τ) (MT nD τ sig Unit (Elt F) ℕ (UU nD τ) ℕ)).LandsIn (upEmb : UEmb _ (MT nD τ sig Unit (Elt F) ℕ (UU nD τ) ℕ)) := by
  unfold EP2 embR; infer_instance

abbrev L : GSem nD τ sig → Finset Unit := fun _ => ∅
abbrev lv : GSem nD τ sig → Unit → ℕ := fun _ _ => 0

abbrev osem : Fin 1 → SemLoc sig := fun _ => .dma 11
theorem ownSemFacts0 : Pipeline.OwnSemFacts spec0 osem := by decide

variable (m : (ℓ : Loc nD τ sig) → Buf (Elt F) ℓ)

/-- The buffers when the first region is entered. -/
abbrev Ve (c : Dev nD) (b : Ref sig .tc) : Buf (Elt F) ((c : Thread nD τ).loc b) := V1 m c b

/-- The buffers when the second is: the logits and the statistics written. -/
def Vz (c : Dev nD) (z : Buf (Elt F) ((c : Thread nD τ).loc main_v2_0)) (st : Buf (Elt F) ((c : Thread nD τ).loc main_v2_1)) (b : Ref sig .tc) :
    Buf (Elt F) ((c : Thread nD τ).loc b) :=
  Function.update (Function.update (Ve m c) main_v2_0 z) main_v2_1 st b

theorem Vz_z (c : Dev nD) (z) (st) : Vz m c z st main_v2_0 = z := by
  unfold Vz; rw [Function.update_of_ne (by decide), Function.update_self]
theorem Vz_st (c : Dev nD) (z) (st) : Vz m c z st main_v2_1 = st := by
  unfold Vz; rw [Function.update_self]
theorem Vz_o (c : Dev nD) (z) (st) : Vz m c z st main_v3 = Ve m c main_v3 := by
  unfold Vz; rw [Function.update_of_ne (by decide), Function.update_of_ne (by decide)]

/-- The two regions' proof data, the second's from what the first left. -/
def rds (Z : (c : Dev nD) → (b : Ref sig .tc) → Buf (Elt F) ((c : Thread nD τ).loc b)) (p : Fin 2) (c : Dev nD) :
    RDat τ (Elt F) Unit ℕ (UU nD τ) ℕ (cfgs p) c :=
  match p with
  | ⟨0, _⟩ => rd0 c (Ve m c)
  | ⟨1, _⟩ => rd1 c (Z c)

abbrev R (c : Dev nD) : sProp 𝕄 := iprop(∃ W, owes (c : Thread nD τ) (0 : CellTallies nD τ sig Unit) W)

theorem ownSems0_0 (c : Dev nD) : (Pipeline.ownSems0 (Ix := Unit) (Name := ℕ) (U := UU nD τ) (Lvl := ℕ) (Val := Elt F) (τ := τ) osem c : sProp 𝕄)
    = semVal ((c : Thread nD τ), SemLoc.dma 11) 0 :=
  Pipeline.ownSems0_eq_of_list c osem [0] (by decide) (by decide)

abbrev osem1 : Fin 0 → SemLoc sig := fun i => i.elim0
theorem ownSemFacts1 : Pipeline.OwnSemFacts spec1 osem1 := by decide
theorem ownSems0_1 (c : Dev nD) : (Pipeline.ownSems0 (Ix := Unit) (Name := ℕ) (U := UU nD τ) (Lvl := ℕ) (Val := Elt F) (τ := τ) osem1 c : sProp 𝕄)
    = iprop(emp) :=
  Pipeline.ownSems0_eq_of_list c osem1 [] (by decide) (by decide)

-- the library's lemmas unify here only when plain definitions may be unfolded
set_option backward.isDefEq.respectTransparency.types false in
/-- The first region. -/
def reg0 (Z : (c : Dev nD) → (b : Ref sig .tc) → Buf (Elt F) ((c : Thread nD τ).loc b))
    (hm : ∀ c x, ((show Vec F S20 .i32 from Ve m c main_arg0) x : BitVec 32).toNat < 100000) :
    Pipeline.RDat.RegionSeg (pcfgs (F := F)) adm (rds m Z) () defs₀ Variants.none L lv 0 where
  win := launch0.win.to₀
  block_pos := launch0.block_pos
  stage_whole := launch0.stage_whole
  K := Fin 1
  osem := osem
  ho := ownSemFacts0
  hbody c := body0 c (Ve m c) (hm c)
  hwaits := Pipeline.RDat.hwaits_of_owed_zero _ _ _ _ L lv 0 fun _ _ => rfl
  pre c := iprop((rd0 c (Ve m c)).arrays (rd0 c (Ve m c)).A ∗ pt c (Memref.whole main_arg1) (Ve m c main_arg1) ∗ R c)
  post c := iprop((rd0 c (Ve m c)).arraysAt cfg0.N ∗ pt c (Memref.whole main_arg1) (Ve m c main_arg1) ∗ R c)
  X c := iprop(pt c (Memref.whole main_arg1) (Ve m c main_arg1) ∗ semVal ((c : Thread nD τ), SemLoc.dma 11) 0)
  Y c := pt c (Memref.whole main_arg1) (Ve m c main_arg1)
  Z _ := iprop(emp)
  hentry c := by
    rw [ownSems0_0]
    iintro ⟨⟨Ha, HE, HO⟩, Hos, -⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [HE Hos]
    · isplitl [HE] <;> iassumption
    iempintro
  hin c := by
    rw [show (rds m Z 0 c).Φ 0 = Φ0 c (Ve m c main_arg1) from rfl]; unfold Φ0
    iintro ⟨⟨HE, Hos⟩, -, Hr⟩
    isplitl [HE]; · iexact HE
    isplitl [Hos] <;> iassumption
  hout c := by
    rw [ownSems0_0, show (rds m Z 0 c).Φ (Fin.last (Pipeline.pin (pcfgs (F := F)) adm 0).N) = Φ0 c (Ve m c main_arg1) from rfl]; unfold Φ0
    exact .rfl
  hexit c := by
    iintro ⟨Ha, HO, HY, -⟩
    imodintro
    isplitl [Ha]; · iexact Ha
    isplitl [HY]; · iexact HY
    unfold Pipeline.RDat.owesAt Pipeline.owesWithin
    icases HO with ⟨%W, -, HO⟩; iexists W; iexact HO

set_option backward.isDefEq.respectTransparency.types false in
/-- The second region. -/
def reg1 (Z : (c : Dev nD) → (b : Ref sig .tc) → Buf (Elt F) ((c : Thread nD τ).loc b)) :
    Pipeline.RDat.RegionSeg (pcfgs (F := F)) adm (rds m Z) () defs₀ Variants.none L lv 1 where
  win := launch1.win.to₀
  block_pos := launch1.block_pos
  stage_whole := launch1.stage_whole
  K := Fin 0
  osem := osem1
  ho := ownSemFacts1
  hbody c := body1 c (Z c)
  hwaits := Pipeline.RDat.hwaits_of_owed_zero _ _ _ _ L lv 1 fun _ _ => rfl
  pre c := iprop((rd1 c (Z c)).arrays (rd1 c (Z c)).A ∗ R c)
  post c := iprop((rd1 c (Z c)).arraysAt cfg1.N ∗ R c)
  X _ := iprop(emp)
  Y _ := iprop(emp)
  Z _ := iprop(emp)
  hentry c := by
    iintro ⟨⟨Ha, HO⟩, -, -⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitr <;> iempintro
  hin c := by
    rw [show (rds m Z 1 c).Φ 0 = Φ1 c from rfl]; unfold Φ1
    iintro ⟨-, -, Hr⟩
    iexact Hr
  hout c := by
    rw [ownSems0_1, show (rds m Z 1 c).Φ (Fin.last (Pipeline.pin (pcfgs (F := F)) adm 1).N) = Φ1 c from rfl]; unfold Φ1
    iintro Hr
    isplitr; · iempintro
    isplitr; · iempintro
    iexact Hr
  hexit c := by
    iintro ⟨Ha, HO, -, -⟩
    imodintro
    isplitl [Ha]; · iexact Ha
    unfold Pipeline.RDat.owesAt Pipeline.owesWithin
    icases HO with ⟨%W, -, HO⟩; iexists W; iexact HO

/-- Both regions' ghost state. -/
def ghosts (c : Dev nD) : sProp 𝕄 :=
  iprop((Pipeline.cellsGhost cfgs EP2 0 c ∗ Pipeline.toksInit cfgs EP2 0 c) ∗ Pipeline.cellsGhost cfgs EP2 1 c ∗ Pipeline.toksInit cfgs EP2 1 c)

/-- What the regions leave: the logits and the statistics related to what was staged, the result related to those. -/
def Left (c : Dev nD) (o : Buf (Elt F) ((c : Thread nD τ).loc main_v3)) : Prop :=
  ∃ z st, (rd0 c (Ve m c)).ArrAt 5 cfg0.N z ∧ (rd0 c (Ve m c)).ArrAt 6 cfg0.N st ∧ (rd1 c (Vz m c z st)).ArrAt 2 cfg1.N o

/-- The end of @main: every argument as launched, the result as the regions leave it. -/
def Tn (c : Dev nD) : sProp 𝕄 :=
  iprop(pt c (Memref.whole main_arg0) (Ve m c main_arg0) ∗ pt c (Memref.whole main_arg1) (Ve m c main_arg1) ∗ pt c (Memref.whole main_arg2) (Ve m c main_arg2)
    ∗ pt c (Memref.whole main_arg3) (Ve m c main_arg3) ∗ pt c (Memref.whole main_arg4) (Ve m c main_arg4) ∗ pt c (Memref.whole main_arg5) (Ve m c main_arg5)
    ∗ ∃ o, ⌜Left m c o⌝ ∗ pt c (Memref.whole main_v3) o)

theorem at_in0 (c : Dev nD) (w : Fin cfg0.W) (h : (cfg0.win w).isOut = false) :
    (iprop(∃ G, ⌜(rd0 c (Ve m c)).ArrAt w cfg0.N G⌝ ∗ (cfg0.win w).arr.view.loc (c : Thread nD τ) ↦[(cfg0.win w).arr.view.set]{(rd0 c (Ve m c)).share w} G) : sProp 𝕄)
      ⊢ ((cfg0.win w).arr.view.loc (c : Thread nD τ)) ↦{fullShare} (rd0 c (Ve m c)).A w := by
  rw [(rd0 c (Ve m c)).ArrAt_in w h, (rd0 c (Ve m c)).share_full (fun _ => rfl), (arr_whole0 w).set_eq_univ]
  iintro ⟨%G, %e, H⟩
  subst e; iexact H

/-- What the second region is entered with. -/
theorem arr_in1 (c : Dev nD) (z) (st) :
    (iprop(pt c (Memref.whole main_v2_1) st ∗ pt c (Memref.whole main_v2_0) z ∗ pt c (Memref.whole main_v3) (Ve m c main_v3)) : sProp 𝕄)
      ⊢ (rd1 c (Vz m c z st)).arrays (rd1 c (Vz m c z st)).A := by
  have e : ∀ w, ((cfg1.win w).arr.view.loc (c : Thread nD τ) ↦[(cfg1.win w).arr.view.set]{(rd1 c (Vz m c z st)).share w} (rd1 c (Vz m c z st)).A w : sProp 𝕄)
      = ((c : Thread nD τ).loc (Pipeline.arrRef spec1 w) ↦{fullShare} Vz m c z st (Pipeline.arrRef spec1 w)) := fun w => by
    rw [(rd1 c (Vz m c z st)).share_full (fun _ => rfl), (arr_whole1 w).set_eq_univ]; rfl
  unfold RDat.arrays
  rw [bigSep_W1, e 0, e 1, e 2]
  show _ ⊢ iprop(pt c (Memref.whole main_v2_1) (Vz m c z st main_v2_1) ∗ pt c (Memref.whole main_v2_0) (Vz m c z st main_v2_0) ∗ pt c (Memref.whole main_v3) (Vz m c z st main_v3))
  rw [Vz_st, Vz_z, Vz_o]

/-- What the first region leaves. -/
theorem arraysAt0 (c : Dev nD) : ((rd0 c (Ve m c)).arraysAt cfg0.N : sProp 𝕄)
    ⊢ iprop(pt c (Memref.whole main_arg0) (Ve m c main_arg0) ∗ pt c (Memref.whole main_arg2) (Ve m c main_arg2) ∗ pt c (Memref.whole main_arg4) (Ve m c main_arg4)
      ∗ (∃ z, ⌜(rd0 c (Ve m c)).ArrAt 5 cfg0.N z⌝ ∗ pt c (Memref.whole main_v2_0) z)
      ∗ ∃ st, ⌜(rd0 c (Ve m c)).ArrAt 6 cfg0.N st⌝ ∗ pt c (Memref.whole main_v2_1) st) := by
  have e : ∀ w G, ((cfg0.win w).arr.view.loc (c : Thread nD τ) ↦[(cfg0.win w).arr.view.set]{(rd0 c (Ve m c)).share w} G : sProp 𝕄)
      = ((cfg0.win w).arr.view.loc (c : Thread nD τ) ↦{fullShare} G) := fun w G => by
    rw [(rd0 c (Ve m c)).share_full (fun _ => rfl), (arr_whole0 w).set_eq_univ]
  unfold RDat.arraysAt
  rw [bigSep_W0]
  iintro ⟨A0, A2, B0, A4, B1, ⟨%z, %hz, Hz⟩, ⟨%st, %hst, Hst⟩⟩
  ihave A0 := (at_in0 m c 0 rfl) $$ A0
  ihave A2 := (at_in0 m c 1 rfl) $$ A2
  ihave A4 := (at_in0 m c 3 rfl) $$ A4
  ihave Hz := (Entails.of_eq (e 5 z)) $$ Hz
  ihave Hst := (Entails.of_eq (e 6 st)) $$ Hst
  isplitl [A0]; · iexact A0
  isplitl [A2]; · iexact A2
  isplitl [A4]; · iexact A4
  isplitl [Hz]
  · iexists z; isplitr; · ipureintro; exact hz
    iexact Hz
  · iexists st; isplitr; · ipureintro; exact hst
    iexact Hst

/-- What the second leaves. -/
theorem arraysAt1 (c : Dev nD) (Z : (b : Ref sig .tc) → Buf (Elt F) ((c : Thread nD τ).loc b)) : ((rd1 c Z).arraysAt cfg1.N : sProp 𝕄)
    ⊢ iprop(∃ o, ⌜(rd1 c Z).ArrAt 2 cfg1.N o⌝ ∗ pt c (Memref.whole main_v3) o) := by
  have e : ∀ w G, ((cfg1.win w).arr.view.loc (c : Thread nD τ) ↦[(cfg1.win w).arr.view.set]{(rd1 c Z).share w} G : sProp 𝕄)
      = ((cfg1.win w).arr.view.loc (c : Thread nD τ) ↦{fullShare} G) := fun w G => by
    rw [(rd1 c Z).share_full (fun _ => rfl), (arr_whole1 w).set_eq_univ]
  unfold RDat.arraysAt
  rw [bigSep_W1]
  iintro ⟨-, -, ⟨%o, %ho, Ho⟩⟩
  ihave Ho := (Entails.of_eq (e 2 o)) $$ Ho
  iexists o; isplitr; · ipureintro; exact ho
  iexact Ho

/-- The regions' ghost state rides beside the buffers. -/
def EE (_ : Fin 3) (c : Dev nD) : sProp 𝕄 := iprop(R c ∗ ghosts c)

set_option backward.isDefEq.respectTransparency.types false in
/-- @main as one stretch: the host operations and the two regions. -/
def host (hm : ∀ c x, ((show Vec F S20 .i32 from Ve m c main_arg0) x : BitVec 32).toNat < 100000) :
    Pipeline.HostSeg (Name := ℕ) (U := UU nD τ) (pcfgs (F := F)) defs₀ Variants.none L lv where
  prog := StableHlo.seq hostOps0 >>= fun _ => .op (.customCall (Pipeline.entry 0) ()) fun _ => .op (.customCall (Pipeline.entry 1) ()) fun _ => pure ⟨⟩
  pre c := iprop(StableHlo.held (c : Thread nD τ) (Pipeline.ucRefs τ sig) (V0 m c) ∗ R c ∗ ghosts c)
  post c := iprop(Tn m c ∗ R c)
  run c β k K := by
    rw [Prog.bind_assoc]
    iintro ⟨Hk, Hb, ⟨Hh, HO, HG⟩, #Hl⟩
    iapply ((seg0 m Variants.none L lv EE).run c (fun _ => .op (.customCall (Pipeline.entry 0) ()) fun _ => .op (.customCall (Pipeline.entry 1) ()) k) K)
    isplitr [Hb Hh HO HG]
    swap
    · isplitl [Hb]; · iexact Hb
      isplitl [Hh HO HG]
      · iapply (show iprop(StableHlo.held (c : Thread nD τ) (Pipeline.ucRefs τ sig) (V0 m c) ∗ R c ∗ ghosts c) ⊢ (seg0 m Variants.none L lv EE).pre c from .rfl)
        isplitl [Hh]; · iexact Hh
        isplitl [HO] <;> iassumption
      iexact Hl
    iintro ⟨Hb, HH⟩
    ihave HH := (show (seg0 m Variants.none L lv EE).post c ⊢ iprop(unscopedBufs c (Ve m c) ∗ R c ∗ ghosts c) from by
      rw [show unscopedBufs c (Ve m c) = StableHlo.held (c : Thread nD τ) (Pipeline.ucRefs τ sig) (V1 m c) from Pipeline.unscopedBufs_held c _]
      exact .rfl) $$ HH
    icases HH with ⟨Hh, HO, HG⟩
    unfold ghosts
    icases HG with ⟨⟨Hc0, Ht0⟩, Hc1, Ht1⟩
    have hsplit := (Pipeline.RDat.arrays_of_unscopedBufs (pcfgs (F := F)) adm (rds m (Ve m)) (p := 0) launch0.win launch0.arr_whole c
      ((rd0 c (Ve m c)).share_full fun _ => rfl) (Ve m c) (fun _ => rfl)).trans (sep_mono .rfl (Entails.of_eq (unscopedRest0_eq c (Ve m c))))
    ihave Hh := hsplit $$ Hh
    icases Hh with ⟨Ha, A1, A3, A5, O3⟩
    iapply (Pipeline.RDat.RegionSeg.wp (pcfgs (F := F)) adm (rds m (Ve m)) () cellOf_inj EP2 defs₀ Variants.none L lv (reg0 m (Ve m) hm) c none (by simp)
      (fun _ => .op (.customCall (Pipeline.entry 1) ()) k) K)
    isplitr [Hb Ha A1 HO Hc0 Ht0]
    swap
    · isplitl [Hb]; · iexact Hb
      isplitl [Ha A1 HO]
      · iapply (show iprop((rd0 c (Ve m c)).arrays (rd0 c (Ve m c)).A ∗ pt c (Memref.whole main_arg1) (Ve m c main_arg1) ∗ R c) ⊢ (reg0 m (Ve m) hm).pre c from .rfl)
        isplitl [Ha]; · iexact Ha
        isplitl [A1] <;> iassumption
      isplitr; · iexact Hl
      isplitl [Hc0] <;> iassumption
    iintro ⟨Hb, HP⟩
    ihave HP := (show (reg0 m (Ve m) hm).post c ⊢ iprop((rd0 c (Ve m c)).arraysAt cfg0.N ∗ pt c (Memref.whole main_arg1) (Ve m c main_arg1) ∗ R c) from .rfl) $$ HP
    icases HP with ⟨Ha, A1, HO⟩
    ihave Ha := (arraysAt0 m c) $$ Ha
    icases Ha with ⟨A0, A2, A4, ⟨%z, %hz, Hz⟩, ⟨%st, %hst, Hst⟩⟩
    iapply (Pipeline.RDat.RegionSeg.wp (pcfgs (F := F)) adm (rds m (fun c' => Vz m c' z st)) () cellOf_inj EP2 defs₀ Variants.none L lv (reg1 m (fun c' => Vz m c' z st)) c none (by simp) k K)
    isplitr [Hb Hz Hst O3 HO Hc1 Ht1]
    swap
    · isplitl [Hb]; · iexact Hb
      isplitl [Hz Hst O3 HO]
      · iapply (show iprop((rd1 c (Vz m c z st)).arrays (rd1 c (Vz m c z st)).A ∗ R c) ⊢ (reg1 m (fun c' => Vz m c' z st)).pre c from .rfl)
        isplitr [HO]
        · iapply (arr_in1 m c z st)
          isplitl [Hst]; · iexact Hst
          isplitl [Hz]; · iexact Hz
          iexact O3
        iexact HO
      isplitr; · iexact Hl
      isplitl [Hc1] <;> iassumption
    iintro ⟨Hb, HP⟩
    ihave HP := (show (reg1 m (fun c' => Vz m c' z st)).post c ⊢ iprop((rd1 c (Vz m c z st)).arraysAt cfg1.N ∗ R c) from .rfl) $$ HP
    icases HP with ⟨Ha, HO⟩
    ihave Ha := (arraysAt1 c (Vz m c z st)) $$ Ha
    icases Ha with ⟨%o, %ho, Ho⟩
    iapply Hk
    isplitl [Hb]; · iexact Hb
    isplitr [HO]
    · unfold Tn
      isplitl [A0]; · iexact A0
      isplitl [A1]; · iexact A1
      isplitl [A2]; · iexact A2
      isplitl [A3]; · iexact A3
      isplitl [A4]; · iexact A4
      isplitl [A5]; · iexact A5
      iexists o
      isplitr; · ipureintro; exact ⟨z, st, hz, hst, ho⟩
      iexact Ho
    iexact HO

/-! ## The run -/

def u₀ : UU nD τ := (initOf (Pipeline.cells cfgs cellOf_inj) (Pipeline.launchToks cfgs cellOf_inj),
  (initOf (Pipeline.cells cfgs cellOf_inj) (Pipeline.launchToks cfgs cellOf_inj), 1))

theorem fund_u₀ : (ownU u₀ : sProp 𝕄) ⊢ |={Set.univ}=> iprop(BI.own (EP (initOf (Pipeline.cells cfgs cellOf_inj) (Pipeline.launchToks cfgs cellOf_inj)))
    ∗ bigSep Finset.univ (fun c : Dev nD => ghosts c)) := by
  have h2 (X : Fin 2 → sProp 𝕄) : bigSep Finset.univ X ⊢ iprop(X 0 ∗ X 1) := Entails.of_eq (BI.bigSep_fin_two X)
  have h1 (c : Dev nD) : iprop((bigSep Finset.univ fun p : Fin 2 => Pipeline.cellsGhost cfgs EP2 p c)
      ∗ bigSep Finset.univ fun p : Fin 2 => Pipeline.toksInit cfgs EP2 p c) ⊢ (ghosts c : sProp 𝕄) := by
    iintro ⟨H, T⟩
    ihave H := (h2 _) $$ H
    ihave T := (h2 _) $$ T
    icases H with ⟨H0, H1⟩
    icases T with ⟨T0, T1⟩
    unfold ghosts
    isplitl [H0 T0]
    · isplitl [H0] <;> iassumption
    isplitl [H1] <;> iassumption
  have hg : iprop((bigSep Finset.univ fun c : Dev nD => bigSep Finset.univ fun p : Fin 2 => Pipeline.cellsGhost cfgs EP2 p c)
      ∗ (bigSep Finset.univ fun c : Dev nD => bigSep Finset.univ fun p : Fin 2 => Pipeline.toksInit cfgs EP2 p c))
      ⊢ (bigSep Finset.univ (fun c : Dev nD => ghosts c) : sProp 𝕄) := by
    rw [← bigSep_sep']
    exact bigSep_mono fun c _ => h1 c
  unfold u₀
  iintro Hu
  ihave H := (ownU_pair _ _) $$ Hu
  icases H with ⟨HP, HQ⟩
  ihave HQ := (own_pair_emb embR _ _) $$ HQ
  icases HQ with ⟨HQ, -⟩
  ihave HQ := (show (BI.own ((Emb.inl.trans embR : Emb (UR sig nD τ) 𝕄) (initOf (Pipeline.cells cfgs cellOf_inj) (Pipeline.launchToks cfgs cellOf_inj))) : sProp 𝕄)
    ⊢ BI.own (EP2 (initOf (Pipeline.cells cfgs cellOf_inj) (Pipeline.launchToks cfgs cellOf_inj))) from .rfl) $$ HQ
  imod (Pipeline.fund_ghost cfgs EP2 cellOf_inj) $$ HQ with HQ
  imodintro
  isplitl [HP]; · iexact HP
  iapply hg
  iexact HQ

set_option backward.isDefEq.respectTransparency.types false in
/-- Every weakly fair execution of @main, from indices within the table: the arguments stay, the result is as the regions
    leave it, no semaphore is left up. -/
theorem run_main (ρ : Dev nD → PrngReg) (hm : ∀ c x, ((show Vec F S20 .i32 from Ve m c main_arg0) x : BitVec 32).toNat < 100000) :
    θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ Left m c (r.2.mem ((c.tc : Thread nD τ).loc main_v3)))
      ∧ r.2.sem = fun _ => 0) := by
  refine Pipeline.RDat.θ_run_regions_kit_sems (pcfgs (F := F)) adm (rds m (Ve m)) () cellOf_inj EP defs₀ Variants.none L lv m ρ main
    [.host (host m hm)]
    (fun c Q => by
      rewrite [main_chain c, Pipeline.RDat.Seg.run_eq_chain, show ([.host (host m hm)] : List (Pipeline.RDat.Seg (pcfgs (F := F)) adm (rds m (Ve m)) () defs₀ Variants.none L lv)).map Pipeline.RDat.Seg.prog = [(host m hm).prog] from rfl]
      exact .rfl)
    (by simp only [Pipeline.RDat.Seg.pipes_host, Pipeline.RDat.Seg.pipes_nil]; decide) (O₀ := 0) (hL := fun _ _ => rfl) (G := fun c => ghosts c) (u₀ := u₀) (hu₀ := fund_u₀)
    (T₀ := fun c => iprop(StableHlo.held (c : Thread nD τ) (Pipeline.ucRefs τ sig) (V0 m c) ∗ R c ∗ ghosts c)) (Tₙ := Tn m)
    (hch := ⟨fun _ => .rfl, fun _ => .rfl⟩)
    (hinit := ?_)
    (QY := fun c s => (s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5))
      ∧ Left m c (s.mem ((c.tc : Thread nD τ).loc main_v3)))
    (hfin := fun c s' => ?_) (hQ := fun _ h hz => ⟨h, funext fun g => hz g (.inr (regions_no_unscoped g.2))⟩)
  · refine Pipeline.initEach L lv fun c => ?_
    rw [show unscopedBufs c (fun b => m ((c : Thread nD τ).loc b)) = StableHlo.held (c : Thread nD τ) (Pipeline.ucRefs τ sig) (V0 m c) from Pipeline.unscopedBufs_held c (V0 m c)]
    iintro ⟨⟨Hh, -, HO, -, -, HG⟩, -⟩
    imodintro
    isplitl [Hh]; · iexact Hh
    isplitl [HO]; · iexists ∅; iexact HO
    iexact HG
  · unfold Tn
    iintro ⟨⟨A0, A1, A2, A3, A4, A5, ⟨%o, %ho, Ho⟩⟩, HSI⟩
    icombine HSI A0 gives %h0
    icombine HSI A1 gives %h1
    icombine HSI A2 gives %h2
    icombine HSI A3 gives %h3
    icombine HSI A4 gives %h4
    icombine HSI A5 gives %h5
    icombine HSI Ho gives %h
    imodintro
    isplitr
    · ipureintro
      refine ⟨⟨(Buf.eq_of_forall_mem_univ h0).trans (V1_of m c main_arg0 (by decide)), (Buf.eq_of_forall_mem_univ h1).trans (V1_of m c main_arg1 (by decide)),
        (Buf.eq_of_forall_mem_univ h2).trans (V1_of m c main_arg2 (by decide)), (Buf.eq_of_forall_mem_univ h3).trans (V1_of m c main_arg3 (by decide)),
        (Buf.eq_of_forall_mem_univ h4).trans (V1_of m c main_arg4 (by decide)), (Buf.eq_of_forall_mem_univ h5).trans (V1_of m c main_arg5 (by decide))⟩, ?_⟩
      have e : s'.mem.mem ((c.tc : Thread nD τ).loc main_v3) = o := Buf.eq_of_forall_mem_univ h
      rw [e]; exact ho
    iexact HSI

end Cert.Proof.Cbow
end
-- ==== Proof.Tr.lean ====
module
public import proofs.«01_k».proof.Proof.Gen.Kernel
public import proofs.«01_k».proof.Proof.Gen.KernelIdeal
@[expose] public section
noncomputable section
open Idealize.ShloMosaic
variable {F : FTy → Type} [FloatOps F]
theorem c0_eq : Cert.KernelIdeal.cc0__logits_kernel (F := F) = Cert.Kernel.cc0__logits_kernel (F := F) := rfl
theorem c1_eq : Cert.KernelIdeal.cc1__normalize_kernel (F := F) = Cert.Kernel.cc1__normalize_kernel (F := F) := rfl
set_option maxHeartbeats 20000000 in
theorem pcfgs_eq : Cert.KernelIdeal.pcfgs (F := F) = Cert.Kernel.pcfgs (F := F) := rfl
set_option maxHeartbeats 20000000 in
theorem defs0_eq : Cert.KernelIdeal.defs₀ (F := F) = Cert.Kernel.defs₀ (F := F) := by
  unfold Cert.KernelIdeal.defs₀ Cert.Kernel.defs₀
  refine congrArg Defs.onTc ?_
  funext l x
  match l, x with
  | ⟨0, _⟩, (t, s) => rfl
  | ⟨1, _⟩, (t, s) => rfl
  | ⟨n + 2, h⟩, _ => exact absurd h (Nat.not_lt.2 (Nat.le_add_left _ _))
set_option maxHeartbeats 20000000 in
theorem defs_eq : Cert.KernelIdeal.defs (F := F) = Cert.Kernel.defs (F := F) := by
  show Pipeline.defs (Cert.KernelIdeal.pcfgs (F := F)) (Cert.KernelIdeal.defs₀ (F := F)) = Pipeline.defs (Cert.Kernel.pcfgs (F := F)) (Cert.Kernel.defs₀ (F := F))
  rw [defs0_eq]
  rfl
end
end
-- ==== Proof.Math.lean ====
module

public import Idealize.ShloMosaic.PureOps.Ideal
public import Idealize.ShloMosaic.Lib.ValueIdx
public import Idealize.ShloMosaic.Lib.Pointwise

@[expose] public section

noncomputable section

namespace Cert.Proof.Cbow

open Idealize.ShloMosaic

/-! ## The logarithm of the softmax, in blocks and whole -/

/-- The largest of finitely many extended reals. -/
def top {n : ℕ} (f : Fin n → EReal) : EReal := (Finset.univ : Finset (Fin n)).fold max ⊥ f

theorem top_eq_sup {n : ℕ} (f : Fin n → EReal) : top f = Finset.univ.sup f := rfl

theorem le_top' {n : ℕ} (f : Fin n → EReal) (i : Fin n) : f i ≤ top f := by
  rw [top_eq_sup]; exact Finset.le_sup (Finset.mem_univ i)

theorem top_le {n : ℕ} {f : Fin n → EReal} {b : EReal} (h : ∀ i, f i ≤ b) : top f ≤ b := by
  rw [top_eq_sup]; exact Finset.sup_le fun i _ => h i

/-- The largest is real when all are real or `⊥` and one is real. -/
theorem top_real {n : ℕ} (f : Fin n → EReal) (h : ∀ i, f i = ⊥ ∨ ∃ x : ℝ, f i = x) (i₀ : Fin n) (h₀ : ∃ x : ℝ, f i₀ = x) :
    ∃ x : ℝ, top f = x := by
  haveI : Nonempty (Fin n) := ⟨i₀⟩
  obtain ⟨i, -, hi⟩ := Finset.exists_mem_eq_sup Finset.univ ⟨i₀, Finset.mem_univ i₀⟩ f
  rw [top_eq_sup, hi]
  rcases h i with hb | hr
  · obtain ⟨x, hx⟩ := h₀
    have := le_top' f i₀
    rw [top_eq_sup, hi, hb, hx] at this
    exact absurd (le_bot_iff.1 this) (EReal.coe_ne_bot x)
  · exact hr

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over the first `N` naturals, cut in blocks of `B`, the last one masked. -/
theorem sum_blocks {M : Type*} [AddCommMonoid M] (T B N : ℕ) (h : N ≤ T * B) (f : ℕ → M) :
    ∑ t : Fin T, ∑ q : Fin B, (if B * t.val + q.val < N then f (B * t.val + q.val) else 0) = ∑ n : Fin N, f n.val := by
  have e : ∑ n : Fin N, f n.val = ∑ n : Fin (T * B), (if n.val < N then f n.val else 0) := by
    rw [Fin.sum_univ_eq_sum_range f, Fin.sum_univ_eq_sum_range (fun n => if n < N then f n else 0), ← Finset.sum_filter]
    refine Finset.sum_congr ?_ fun _ _ => rfl
    ext n; simp only [Finset.mem_range, Finset.mem_filter]; omega
  rw [e, ← Equiv.sum_comp finProdFinEquiv, Fintype.sum_prod_type]
  refine Finset.sum_congr rfl fun t _ => Finset.sum_congr rfl fun q _ => ?_
  have : (finProdFinEquiv (t, q)).val = B * t.val + q.val := by simp [finProdFinEquiv, Nat.add_comm]
  rw [this]

/-- A block's entry: the logit inside the array, `⊥` outside. -/
def blk (B N : ℕ) (L : ℕ → EReal) (t q : ℕ) : EReal := if B * t + q < N then L (B * t + q) else ⊥

/-- The largest entry of a block. -/
def blkTop (B N : ℕ) (L : ℕ → EReal) (t : ℕ) : EReal := top fun q : Fin B => blk B N L t q.val

/-- A block's sum of exponentials, shifted by its largest entry. -/
def blkSum (B N : ℕ) (L : ℕ → EReal) (t : ℕ) : EReal := ∑ q : Fin B, Ideal.exp (blk B N L t q.val - blkTop B N L t)

/-- The blocked logarithm of the softmax is the whole one, where every logit is a real. -/
theorem logSoftmax_blocks (T B N : ℕ) (hB : 0 < B) (hT : ∀ t < T, B * t < N) (h : N ≤ T * B) (h0 : 0 < N)
    (L : ℕ → EReal) (hL : ∀ n < N, ∃ x : ℝ, L n = x) (n : ℕ) (hn : n < N) :
    L n - ((top fun t : Fin T => blkTop B N L t.val)
        + Ideal.log (∑ t : Fin T, blkSum B N L t.val * Ideal.exp (blkTop B N L t.val - top fun t : Fin T => blkTop B N L t.val)))
      = (L n - top fun i : Fin N => L i.val) - Ideal.log (∑ i : Fin N, Ideal.exp (L i.val - top fun i : Fin N => L i.val)) := by
  classical
  have hT0 : 0 < T := by
    rcases Nat.eq_zero_or_pos T with e | e
    · subst e; omega
    · exact e
  -- the two maxima agree
  have hm : (top fun t : Fin T => blkTop B N L t.val) = top fun i : Fin N => L i.val := by
    apply le_antisymm
    · refine top_le fun t => top_le fun q => ?_
      unfold blk
      split
      · next hlt => exact le_top' (fun i : Fin N => L i.val) ⟨_, hlt⟩
      · exact bot_le
    · refine top_le fun i => ?_
      have hi : i.val / B < T := (Nat.div_lt_iff_lt_mul hB).2 (lt_of_lt_of_le i.isLt h)
      refine le_trans ?_ (le_top' (fun t : Fin T => blkTop B N L t.val) ⟨i.val / B, hi⟩)
      refine le_trans (le_of_eq ?_) (le_top' (fun q : Fin B => blk B N L (i.val / B) q.val) ⟨i.val % B, Nat.mod_lt _ hB⟩)
      have : B * (i.val / B) + i.val % B = i.val := Nat.div_add_mod _ _
      simp only [blk, this, i.isLt, if_true]
  rw [hm]
  obtain ⟨m, hmr⟩ := top_real (fun i : Fin N => L i.val) (fun i => .inr (hL _ i.isLt)) ⟨0, h0⟩ (hL 0 h0)
  rw [hmr]
  choose l hl using hL
  -- a real function with the logits' values
  let r : ℕ → ℝ := fun k => if hk : k < N then l k hk else 0
  have hr : ∀ k < N, L k = (r k : EReal) := fun k hk => by rw [hl k hk]; simp only [r, hk, dif_pos]
  have hbt : ∀ t : Fin T, ∃ x : ℝ, blkTop B N L t.val = x := fun t => by
    refine top_real _ (fun q => ?_) ⟨0, hB⟩ ?_
    · unfold blk
      split
      · next hlt => exact .inr ⟨_, hr _ hlt⟩
      · exact .inl rfl
    · have := hT t.val t.isLt
      exact ⟨r (B * t.val), by simp only [blk, Nat.add_zero, this, if_true]; exact hr _ this⟩
  choose μ hμ using hbt
  have hexp : ∀ x : ℝ, Ideal.exp (x : EReal) = (Real.exp x : EReal) := fun x => rfl
  have hterm : ∀ t : Fin T, blkSum B N L t.val * Ideal.exp (blkTop B N L t.val - (m : EReal))
      = ((∑ q : Fin B, (if B * t.val + q.val < N then Real.exp (r (B * t.val + q.val) - m) else 0) : ℝ) : EReal) := fun t => by
    have hs : blkSum B N L t.val
        = ((∑ q : Fin B, (if B * t.val + q.val < N then Real.exp (r (B * t.val + q.val) - μ t) else 0) : ℝ) : EReal) := by
      rw [coe_sum]
      refine Finset.sum_congr rfl fun q _ => ?_
      rw [hμ t]
      unfold blk
      split
      · next hlt => rw [hr _ hlt, ← EReal.coe_sub, hexp]
      · rw [EReal.bot_sub]; rfl
    rw [hs, hμ t, ← EReal.coe_sub, hexp, ← EReal.coe_mul, Finset.sum_mul]
    refine congrArg _ (Finset.sum_congr rfl fun q _ => ?_)
    split
    · rw [← Real.exp_add]; congr 1; ring
    · exact zero_mul _
  have hsum : ∑ t : Fin T, blkSum B N L t.val * Ideal.exp (blkTop B N L t.val - (m : EReal))
      = ((∑ i : Fin N, Real.exp (r i.val - m) : ℝ) : EReal) := by
    rw [Finset.sum_congr rfl fun t _ => hterm t, ← coe_sum, sum_blocks T B N h fun k => Real.exp (r k - m)]
  have hsum' : ∑ i : Fin N, Ideal.exp (L i.val - (m : EReal)) = ((∑ i : Fin N, Real.exp (r i.val - m) : ℝ) : EReal) := by
    rw [coe_sum]
    refine Finset.sum_congr rfl fun i _ => ?_
    rw [hr _ i.isLt, ← EReal.coe_sub, hexp]
  rw [hsum, hsum', hr n hn]
  have hpos : 0 < ∑ i : Fin N, Real.exp (r i.val - m) :=
    Finset.sum_pos (fun _ _ => Real.exp_pos _) ⟨⟨0, h0⟩, Finset.mem_univ _⟩
  have hlog : Ideal.log ((∑ i : Fin N, Real.exp (r i.val - m) : ℝ) : EReal) = (Real.log (∑ i : Fin N, Real.exp (r i.val - m)) : EReal) := by
    show (if _ then _ else _) = _
    rw [if_neg (not_le.2 hpos)]
  rw [hlog, ← EReal.coe_add, ← EReal.coe_sub, ← EReal.coe_sub, ← EReal.coe_sub]
  congr 1
  ring

/-! ## The logits -/

/-- A row of the table at a word. -/
def rowE (E : Vec Ideal ⟨2, ![100000, 64]⟩ .f32) (w : BitVec 32) (l : Fin 64) : EReal :=
  if h : w.toNat < 100000 then E (ix2 ⟨w.toNat, h⟩ l) else 0

/-- The hidden layer. -/
def hid (I : Vec Ideal ⟨1, ![20]⟩ .i32) (E : Vec Ideal ⟨2, ![100000, 64]⟩ .f32) (W1 : Vec Ideal ⟨2, ![1280, 128]⟩ .f32) (b1 : Fin 128 → EReal) (j : Fin 128) : EReal :=
  max (b1 j + ∑ i : Fin 20, ∑ l : Fin 64, rowE E (I (ix1 i)) l * W1 (ix2 ⟨64 * i.val + l.val, by omega⟩ j)) 0

/-- The logits. -/
def lgt (I : Vec Ideal ⟨1, ![20]⟩ .i32) (E : Vec Ideal ⟨2, ![100000, 64]⟩ .f32) (W1 : Vec Ideal ⟨2, ![1280, 128]⟩ .f32) (b1 : Fin 128 → EReal)
    (W2 : Vec Ideal ⟨2, ![128, 100000]⟩ .f32) (b2 : Fin 100000 → EReal) (n : ℕ) : EReal :=
  if h : n < 100000 then (∑ j : Fin 128, hid I E W1 b1 j * W2 (ix2 j ⟨n, h⟩)) + b2 ⟨n, h⟩ else 0

end Cert.Proof.Cbow
-- ==== Proof.Value.lean ====
module

public import proofs.«01_k».proof.Proof.Gather
public import proofs.«01_k».proof.Proof.Math
public import Idealize.ShloMosaic.Lib.Pointwise
public import Idealize.ShloMosaic.Lib.ReduceAll

@[expose] public section

noncomputable section

namespace Cert.Proof.Cbow

open Cert.Kernel Cert.Kernel.Gen
open Idealize.ShloMosaic

set_option maxHeartbeats 4000000

/-- The hidden layer before its maximum with zero: the bias and the twenty rows' products. -/
theorem accV_apply (r : Fin 20 → Vec Ideal S1x64 .f32) (p : Fin 20 → Vec Ideal S64x128 .f32) (b1 : Vec Ideal S1x128 .f32) (j : Fin 128) :
    accV r p b1 (ix2 0 j) + ∑ l : Fin 64, r 19 (ix2 0 l) * p 19 (ix2 l j)
      = b1 (ix2 0 j) + ∑ i : Fin 20, ∑ l : Fin 64, r i (ix2 0 l) * p i (ix2 l j) := by
  unfold accV
  pointwise [k0_pay2, k0_pay3, k0_pay4]
  generalize hf : (fun i : Fin 20 => ∑ l : Fin 64, r i (ix2 0 l) * p i (ix2 l j)) = f
  have e : ∀ i : Fin 20, ∑ l : Fin 64, r i (ix2 0 l) * p i (ix2 l j) = f i := fun i => congrFun hf i
  simp only [e, Fin.sum_univ_castSucc (n := 19), Fin.sum_univ_castSucc (n := 18), Fin.sum_univ_castSucc (n := 17),
    Fin.sum_univ_castSucc (n := 16), Fin.sum_univ_castSucc (n := 15), Fin.sum_univ_castSucc (n := 14), Fin.sum_univ_castSucc (n := 13),
    Fin.sum_univ_castSucc (n := 12), Fin.sum_univ_castSucc (n := 11), Fin.sum_univ_castSucc (n := 10), Fin.sum_univ_castSucc (n := 9),
    Fin.sum_univ_castSucc (n := 8), Fin.sum_univ_eight, ← add_assoc]
  rfl

/-- A block of logits at an index. -/
theorem pay5_apply (a : FVec Ideal S1x128 .f32) (r : Vec Ideal S1x64 .f32) (p : Vec Ideal S64x128 .f32)
    (w2 : Vec Ideal S128x8192 .f32) (b2 : Vec Ideal S1x8192 .f32) (q : Fin 8192) :
    k0_pay5 a r p w2 b2 (ix2 0 q)
      = (∑ j : Fin 128, max (a (ix2 0 j) + ∑ l : Fin 64, r (ix2 0 l) * p (ix2 l j)) 0 * w2 (ix2 j q)) + b2 (ix2 0 q) := by
  pointwise [k0_pay5]

/-- A block of logits at an index, from the rows, the parts of the first weight and the biases. -/
theorem zV_apply (r : Fin 20 → Vec Ideal S1x64 .f32) (p : Fin 20 → Vec Ideal S64x128 .f32) (b1 : Vec Ideal S1x128 .f32)
    (w2 : Vec Ideal S128x8192 .f32) (b2 : Vec Ideal S1x8192 .f32) (q : Fin 8192) :
    zV r p b1 w2 b2 (ix2 0 q)
      = (∑ j : Fin 128, max (b1 (ix2 0 j) + ∑ i : Fin 20, ∑ l : Fin 64, r i (ix2 0 l) * p i (ix2 l j)) 0 * w2 (ix2 j q)) + b2 (ix2 0 q) := by
  unfold zV
  rw [pay5_apply]
  exact congrArg (· + b2 (ix2 0 q)) (Finset.sum_congr rfl fun j _ => congrArg (fun x : EReal => max x 0 * w2 (ix2 j q)) (accV_apply r p b1 j))

/-- The pattern of minus infinity. -/
theorem ofBits_neg_inf : Ideal.ofBits FTy.f32 4286578688#32 = (⊥ : EReal) := by
  simp [Ideal.ofBits, Ideal.ieee]

/-- The pattern of plus infinity. -/
theorem ofBits_pos_inf : Ideal.ofBits FTy.f32 0x7F800000#32 = (⊤ : EReal) := by
  simp [Ideal.ofBits, Ideal.ieee]

/-- The mask's bit: whether the column is one of the vocabulary. -/
theorem mask_bit (t : Fin 13) (q : Fin 8192) :
    IntOp.cmpi CmpIPredicate.slt (IntOp.addi (Scalar.muli (BitVec.ofNat 32 t.val) 8192#32) (BitVec.ofNat 32 q.val)) 100000#32
      = if 8192 * t.val + q.val < 100000 then 1#1 else 0#1 := by
  have ht := t.isLt
  have hq := q.isLt
  have e : IntOp.addi (Scalar.muli (BitVec.ofNat 32 t.val) 8192#32) (BitVec.ofNat 32 q.val) = BitVec.ofNat 32 (8192 * t.val + q.val) := by
    apply BitVec.eq_of_toNat_eq
    show ((BitVec.ofNat 32 t.val * 8192#32 + BitVec.ofNat 32 q.val : BitVec 32)).toNat = _
    simp only [BitVec.toNat_add, BitVec.toNat_mul, BitVec.toNat_ofNat]
    omega
  rw [e]
  have hn : (BitVec.ofNat 32 (8192 * t.val + q.val)).toInt = (8192 * t.val + q.val : ℕ) := by
    rw [BitVec.toInt_eq_toNat_of_lt] <;> simp only [BitVec.toNat_ofNat] <;> omega
  split
  · next h => exact IntOp.cmpi_slt.2 (by rw [hn]; show _ < (100000 : ℤ); omega)
  · next h =>
    refine ValueIdx.eq_zero_of_ne_one fun h1 => h ?_
    have := IntOp.cmpi_slt.1 h1
    rw [hn] at this
    have h2 : ((8192 * t.val + q.val : ℕ) : ℤ) < 100000 := this
    omega

theorem select_ite {α : Type} (P : Prop) [Decidable P] (a b : α) : Scalar.select (if P then 1#1 else 0#1) a b = if P then a else b := by
  split <;> rfl

section
variable (t : Fin 13) (r : Fin 20 → Vec Ideal S1x64 .f32) (p : Fin 20 → Vec Ideal S64x128 .f32) (b1 : Vec Ideal S1x128 .f32)
  (w2 : Vec Ideal S128x8192 .f32) (b2 : Vec Ideal S1x8192 .f32)

/-- The masked block at an index. -/
theorem pay6_apply (q : Fin 8192) :
    k0_pay6 (BitVec.ofNat 32 t.val) (accV r p b1) (r 19) (p 19) w2 b2 (ix2 0 q)
      = if 8192 * t.val + q.val < 100000 then zV r p b1 w2 b2 (ix2 0 q) else ⊥ := by
  unfold k0_pay6 zV
  generalize k0_pay5 (accV r p b1) (r 19) (p 19) w2 b2 = X
  pointwise
  rw [mask_bit, select_ite, ofBits_neg_inf]

/-- A block's maximum is the largest of its masked entries. -/
theorem pay7_apply (L : ℕ → EReal)
    (hL : ∀ q : Fin 8192, 8192 * t.val + q.val < 100000 → zV r p b1 w2 b2 (ix2 0 q) = L (8192 * t.val + q.val)) :
    k0_pay7 (BitVec.ofNat 32 t.val) (accV r p b1) (r 19) (p 19) w2 b2 = blkTop 8192 100000 L t.val := by
  have h6 : ∀ q : Fin 8192, k0_pay6 (BitVec.ofNat 32 t.val) (accV r p b1) (r 19) (p 19) w2 b2 (ix2 0 q) = blk 8192 100000 L t.val q.val := fun q => by
    rw [pay6_apply]; unfold blk; split
    · next h => exact hL q h
    · rfl
  unfold k0_pay7
  generalize k0_pay6 (BitVec.ofNat 32 t.val) (accV r p b1) (r 19) (p 19) w2 b2 = X at h6
  pointwise
  simp only [h6]
  rw [ofBits_neg_inf]
  refine le_antisymm ?_ (top_le fun q => ?_)
  · exact Finset.sup_le fun x _ => le_top' (fun q : Fin 8192 => blk 8192 100000 L t.val q.val) x.2
  · exact Finset.le_sup (f := fun x : Fin 1 × Fin 8192 => blk 8192 100000 L t.val x.2.val) (Finset.mem_univ ((0 : Fin 1), q))

/-- A block's sum of shifted exponentials. -/
theorem pay10_apply (L : ℕ → EReal)
    (hL : ∀ q : Fin 8192, 8192 * t.val + q.val < 100000 → zV r p b1 w2 b2 (ix2 0 q) = L (8192 * t.val + q.val)) (x : S1x8x128.Idx) :
    k0_pay10 (BitVec.ofNat 32 t.val) (accV r p b1) (r 19) (p 19) w2 b2 x = blkSum 8192 100000 L t.val := by
  have h6 : ∀ q : Fin 8192, k0_pay6 (BitVec.ofNat 32 t.val) (accV r p b1) (r 19) (p 19) w2 b2 (ix2 0 q) = blk 8192 100000 L t.val q.val := fun q => by
    rw [pay6_apply]; unfold blk; split
    · next h => exact hL q h
    · rfl
  unfold k0_pay10
  rw [pay7_apply t r p b1 w2 b2 L hL]
  generalize k0_pay6 (BitVec.ofNat 32 t.val) (accV r p b1) (r 19) (p 19) w2 b2 = X at h6
  generalize hM : blkTop 8192 100000 L t.val = M
  pointwise
  simp only [h6]
  rw [Fin.sum_univ_one]
  unfold blkSum
  rw [hM]

/-- A block's maximum, spread. -/
theorem pay9_apply (i : BitVec 32) (a : FVec Ideal S1x128 .f32) (r : Vec Ideal S1x64 .f32) (p : Vec Ideal S64x128 .f32) (x : S1x8x128.Idx) :
    k0_pay9 i a r p w2 b2 x = k0_pay7 i a r p w2 b2 := by
  unfold k0_pay9
  generalize k0_pay7 i a r p w2 b2 = M
  rfl

/-- The statistics' first lane is the block's maximum, its others the sum. -/
theorem pay1_apply (A B : FVec Ideal S1x8x128 .f32) (u : Fin 8) (v : Fin 128) :
    k0_pay1 k0_pay8 A B (ix3 0 u v) = if v.val = 0 then A (ix3 0 u v) else B (ix3 0 u v) := by
  pointwise [k0_pay1, k0_pay8]
  rw [show IntOp.cmpi CmpIPredicate.eq (BitVec.ofNat 32 v.val) 0#32 = if v.val = 0 then 1#1 else 0#1 from by revert v; decide +kernel, select_ite]

theorem stV_apply (L : ℕ → EReal)
    (hL : ∀ q : Fin 8192, 8192 * t.val + q.val < 100000 → zV r p b1 w2 b2 (ix2 0 q) = L (8192 * t.val + q.val)) (u : Fin 8) (v : Fin 128) :
    stV (BitVec.ofNat 32 t.val) r p b1 w2 b2 (ix3 0 u v) = if v.val = 0 then blkTop 8192 100000 L t.val else blkSum 8192 100000 L t.val := by
  unfold stV
  rw [pay1_apply, pay10_apply t r p b1 w2 b2 L hL]
  rw [pay9_apply, pay7_apply t r p b1 w2 b2 L hL]

end

/-- The second kernel's block: the logits less the maximum and the logarithm of the rescaled sums. -/
theorem out_apply (v0 v2 : Vec Ideal S13x1x1 .f32) (z : Vec Ideal S1x8192 .f32) (q : Fin 8192) :
    k1_pay1 v0 v2 z (ix2 0 q) = z (ix2 0 q) - ((top fun t : Fin 13 => v0 (ix3 t 0 0))
      + Ideal.log (∑ t : Fin 13, v2 (ix3 t 0 0) * Ideal.exp (v0 (ix3 t 0 0) - top fun t : Fin 13 => v0 (ix3 t 0 0)))) := by
  pointwise [k1_pay1]
  rw [ofBits_neg_inf]
  rfl

end Cert.Proof.Cbow
-- ==== Proof.Pre.lean ====
module

public import proofs.«01_k».proof.Pre_finite_in_range
public import proofs.«01_k».proof.Proof.Gen.Pre_in_range
public import proofs.«01_k».proof.Proof.Value
public import Idealize.ShloMosaic.Lib.ReduceAll

@[expose] public section

noncomputable section

namespace Cert.Proof.Pre

open Idealize.ShloMosaic

/-- A word at least 0 and below 100000, read signed, is below 100000 read unsigned. -/
theorem word_lt (w : BitVec 32) (h : IntOp.andi (IntOp.cmpi .sge w 0#32) (IntOp.cmpi .slt w 100000#32) = 1#1) : w.toNat < 100000 := by
  obtain ⟨h0, h1⟩ := IntOp.andi_eq_one.1 h
  have h0 := IntOp.cmpi_sge.1 h0
  have h1 := IntOp.cmpi_slt.1 h1
  simp only [BitVec.toInt, BitVec.toNat_ofNat] at h0 h1
  omega

/-- The printed range predicate, at every word. -/
theorem in_range {F : FTy → Type} [FloatOps F] (a0 a1 a2 a3 a4 a5)
    (h : Cert.Pre_in_range.fn (F := F) a0 a1 a2 a3 a4 a5 = fun _ => 1#1) (x) : (a0 x : BitVec 32).toNat < 100000 := by
  have e := congrFun h (fun a => a.elim0)
  unfold Cert.Pre_in_range.fn at e
  exact word_lt _ (Host.reduce_andi_all _ _ _ _ _ e x)

open Cert.Pre_finite_in_range in
/-- The side conditions of the finiteness predicate. -/
instance facts : Cert.Pre_finite_in_range.Facts where
  bcast_S_S100000x64 := by decide
  reducesTo_S100000x64_S_d0_1 := by decide
  h_S_ := by decide
  bcast_S_S1280x128 := by decide
  reducesTo_S1280x128_S_d0_1 := by decide
  bcast_S_S128 := by decide
  reducesTo_S128_S_d0 := by decide
  bcast_S_S128x100000 := by decide
  reducesTo_S128x100000_S_d0_1 := by decide
  bcast_S_S100000 := by decide
  reducesTo_S100000_S_d0 := by decide
  bcast_S_S20 := by decide
  reducesTo_S20_S_d0 := by decide

/-- A value whose magnitude is below the positive infinity is real. -/
theorem real_of_lt (x : EReal) (h : (FloatOps.cmpf .olt (FloatOps.absf (show Ideal .f32 from x)) (FloatOps.ofBits (F := Ideal) .f32 0x7F800000#32) : BitVec 1) = 1#1) :
    ∃ r : ℝ, x = r := by
  rw [Ideal.cmpf_def, Ideal.absf_def] at h
  have e : (FloatOps.ofBits (F := Ideal) .f32 0x7F800000#32 : EReal) = ⊤ := Cbow.ofBits_pos_inf
  rw [e] at h
  induction x using EReal.rec with
  | bot => exact absurd h (by simp [Ideal.cmp])
  | coe r => exact ⟨r, rfl⟩
  | top => exact absurd h (by simp [Ideal.cmp])

open Cert.Pre_finite_in_range in
/-- The printed predicate: every index in range, and every float of the five arrays real. -/
theorem finite_in_range (a0 a1 a2 a3 a4 a5) (h : Cert.Pre_finite_in_range.fn (F := Ideal) a0 a1 a2 a3 a4 a5 = fun _ => 1#1) :
    (∀ x, (a0 x : BitVec 32).toNat < 100000) ∧ (∀ x, ∃ r : ℝ, (a1 x : EReal) = r) ∧ (∀ x, ∃ r : ℝ, (a2 x : EReal) = r)
      ∧ (∀ x, ∃ r : ℝ, (a3 x : EReal) = r) ∧ (∀ x, ∃ r : ℝ, (a4 x : EReal) = r) ∧ (∀ x, ∃ r : ℝ, (a5 x : EReal) = r) := by
  have e := congrFun h (fun a => a.elim0)
  unfold Cert.Pre_finite_in_range.fn Cert.Pre_finite_in_range.fn_part1 at e
  obtain ⟨e, h5⟩ := IntOp.andi_eq_one.1 e
  obtain ⟨e, h4⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  exact ⟨fun x => word_lt _ (Host.reduce_andi_all _ _ _ _ _ h0 x), fun x => real_of_lt _ (Host.reduce_andi_all _ _ _ _ _ h1 x),
    fun x => real_of_lt _ (Host.reduce_andi_all _ _ _ _ _ h2 x), fun x => real_of_lt _ (Host.reduce_andi_all _ _ _ _ _ h3 x),
    fun x => real_of_lt _ (Host.reduce_andi_all _ _ _ _ _ h4 x), fun x => real_of_lt _ (Host.reduce_andi_all _ _ _ _ _ h5 x)⟩

end Cert.Proof.Pre
end
-- ==== Proof.Arr.lean ====
module

public import proofs.«01_k».proof.Proof.Value
public import proofs.«01_k».proof.Proof.Norm
public import Idealize.ShloMosaic.Lib.Pipeline.ArrRel

@[expose] public section

noncomputable section

namespace Cert.Proof.Cbow

open Cert.Kernel Cert.Kernel.Gen

open Idealize.ShloMosaic
open Idealize.ShloMosaic.TcCoe Idealize.ShloMosaic.Tactic
open Idealize.SL Idealize.SL.RA
open Idealize.ShloMosaic.Pipeline (RDat Cfg Window)

/-! ## The arrays the regions leave -/

/-- A property of everything a point may leave is a property of the array, where the written-back blocks cover it. -/
theorem arr_forall {cfg : Cfg sig Λ₀} {c : Dev nD} {rd : RDat τ (Elt Ideal) Unit ℕ (UU nD τ) ℕ cfg c} {w : Fin cfg.W}
    {G : Buf (Elt Ideal) ((cfg.win w).arr.view.loc (c.tc : Thread nD τ))} (hG : rd.ArrAt w cfg.N G)
    (P : ((cfg.win w).arr.view.loc (c.tc : Thread nD τ)).2.ty.Idx → Elt Ideal ((cfg.win w).arr.view.loc (c.tc : Thread nD τ)).2.ty.elt → Prop)
    (hcov : (cfg.win w).Covers) (harr : (cfg.win w).arr.IsWhole)
    (hP : ∀ t X, rd.Leaves w t X → ∀ y : ((cfg.win w).xblock (cfg.grid.coords t)).Idx,
      P (((cfg.win w).blk t).view.emb y)
        (_root_.cast (congrArg (Elt Ideal) ((cfg.win w).blk t).view.elt_eq.symm) (X ((cfg.win w).xinj (cfg.grid.coords t) y))))
    (i : ((cfg.win w).arr.view.loc (c.tc : Thread nD τ)).2.ty.Idx) : P i (G i) := by
  obtain ⟨X, hX, hA⟩ := hG.exists_exact
  rw [hA (Function.update (fun _ _ _ => Classical.arbitrary _) w X) fun u _ _ => by rw [Function.update_self]]
  refine Pipeline.Dat.arrAt_forall_of_covers _ w P hcov (fun t hf y => ?_) i harr
  rw [RDat.withAfter_after, Function.update_self]
  exact hP t _ (hX t t.isLt hf) y

section
variable (c : Dev nD) (V : (b : Ref sig .tc) → Buf (Elt Ideal) ((c : Thread nD τ).loc b))

/-- The logits, from the buffers before the first region. -/
def lgV (n : ℕ) : EReal :=
  lgt (show Vec Ideal S20 .i32 from V main_arg0) (show Vec Ideal S100000x64 .f32 from V main_arg1) (show Vec Ideal S1280x128 .f32 from V main_arg2)
    (fun j => (show Vec Ideal S1x128 .f32 from V main_v0) (ix2 0 j)) (show Vec Ideal S128x100000 .f32 from V main_arg4)
    (fun n => (show Vec Ideal S1x100000 .f32 from V main_v1) (ix2 0 n)) n

theorem coords0 : ∀ t : Fin cfg0.N, ((grid0.coords t) 0).val = t.val := by decide +kernel
theorem coords1 : ∀ t : Fin cfg1.N, ((grid1.coords t) 0).val = t.val := by decide +kernel

theorem xs3_0 : ∀ t : Fin cfg0.N, (cfg0.win 3).xsize (cfg0.grid.coords t) (0 : Fin 2) = 128 := by decide +kernel
theorem xs3_1 : ∀ t : Fin cfg0.N, (cfg0.win 3).xsize (cfg0.grid.coords t) (1 : Fin 2) = min 8192 (100000 - 8192 * t.val) := by decide +kernel
theorem ix3_0 : ∀ t : Fin cfg0.N, (cfg0.win 3).kind.off ((cfg0.win 3).index t (0 : Fin 2)) ((cfg0.win 3).size (0 : Fin 2)) = 0 := by decide +kernel
theorem ix3_1 : ∀ t : Fin cfg0.N, (cfg0.win 3).kind.off ((cfg0.win 3).index t (1 : Fin 2)) ((cfg0.win 3).size (1 : Fin 2)) = 8192 * t.val := by decide +kernel
theorem xs4_0 : ∀ t : Fin cfg0.N, (cfg0.win 4).xsize (cfg0.grid.coords t) (0 : Fin 2) = 1 := by decide +kernel
theorem xs4_1 : ∀ t : Fin cfg0.N, (cfg0.win 4).xsize (cfg0.grid.coords t) (1 : Fin 2) = min 8192 (100000 - 8192 * t.val) := by decide +kernel
theorem ix4_0 : ∀ t : Fin cfg0.N, (cfg0.win 4).kind.off ((cfg0.win 4).index t (0 : Fin 2)) ((cfg0.win 4).size (0 : Fin 2)) = 0 := by decide +kernel
theorem ix4_1 : ∀ t : Fin cfg0.N, (cfg0.win 4).kind.off ((cfg0.win 4).index t (1 : Fin 2)) ((cfg0.win 4).size (1 : Fin 2)) = 8192 * t.val := by decide +kernel

/-- The block of logits a point computes, at a column of the vocabulary. -/
theorem z_at (t : Fin cfg0.N) {y0 : Vec Ideal S20 .i32} {y1 : Vec Ideal S1280x128 .f32} {y2 : Vec Ideal S1x128 .f32}
    {y3 : Vec Ideal S128x8192 .f32} {y4 : Vec Ideal S1x8192 .f32} (h : Ins c V t y0 y1 y2 y3 y4)
    (hw : ∀ k, (wordY y0 k).toNat < 100000) (q : Fin 8192) (hq : 8192 * t.val + q.val < 100000) :
    zV (rowT c (V main_arg1) (wordY y0) hw) (partY y1) y2 y3 y4 (ix2 0 q) = lgV c V (8192 * t.val + q.val) := by
  obtain ⟨⟨d0, rfl⟩, ⟨d1, rfl⟩, ⟨d2, rfl⟩, ⟨d3, rfl⟩, ⟨d4, rfl⟩⟩ := h
  have e1 : ∀ k l j, partY (ftch0 c V 1 t d1) k (ix2 l j) = (show Vec Ideal S1280x128 .f32 from V main_arg2) (ix2 ⟨64 * k.val + l.val, by omega⟩ j) := fun k l j => by
    refine ftch0_at c V 1 t d1 _ (ix2 ⟨64 * k.val + l.val, by omega⟩ j) (fun a => ?_) fun a => ?_
    · exact Fin.isLt _
    · fin_cases a
      · show 64 * k.val + l.val = 0 + (64 * k.val + 1 * l.val); omega
      · show j.val = 0 + (0 + 1 * j.val); omega
  have e2 : ∀ j, ftch0 c V 2 t d2 (ix2 0 j) = (show Vec Ideal S1x128 .f32 from V main_v0) (ix2 0 j) := fun j => by
    refine ftch0_at c V 2 t d2 _ (ix2 0 j) (fun a => ?_) fun a => ?_
    · exact Fin.isLt _
    · fin_cases a
      · rfl
      · show j.val = 0 + j.val; omega
  have e3 : ∀ j, ftch0 c V 3 t d3 (ix2 j q) = (show Vec Ideal S128x100000 .f32 from V main_arg4) (ix2 j ⟨8192 * t.val + q.val, hq⟩) := fun j => by
    refine ftch0_at c V 3 t d3 _ (ix2 j ⟨8192 * t.val + q.val, hq⟩) (fun a => ?_) fun a => ?_
    · fin_cases a
      · exact lt_of_lt_of_eq j.isLt (xs3_0 t).symm
      · refine lt_of_lt_of_eq ?_ (xs3_1 t).symm; show q.val < _; omega
    · fin_cases a
      · refine Eq.trans ?_ (congrArg (· + j.val) (ix3_0 t).symm); show j.val = 0 + j.val; omega
      · exact (congrArg (· + q.val) (ix3_1 t).symm)
  have e4 : ftch0 c V 4 t d4 (ix2 0 q) = (show Vec Ideal S1x100000 .f32 from V main_v1) (ix2 0 ⟨8192 * t.val + q.val, hq⟩) := by
    refine ftch0_at c V 4 t d4 _ (ix2 0 ⟨8192 * t.val + q.val, hq⟩) (fun a => ?_) fun a => ?_
    · fin_cases a
      · refine lt_of_lt_of_eq ?_ (xs4_0 t).symm; exact Nat.one_pos
      · refine lt_of_lt_of_eq ?_ (xs4_1 t).symm; show q.val < _; omega
    · fin_cases a
      · exact (congrArg (· + 0) (ix4_0 t).symm)
      · exact (congrArg (· + q.val) (ix4_1 t).symm)
  have e0 : ∀ k, wordY (ftch0 c V 0 t d0) k = (show Vec Ideal S20 .i32 from V main_arg0) (ix1 k) := fun k => by
    unfold wordY
    refine (word_stage c V t d0 _).trans (congrArg (show Vec Ideal S20 .i32 from V main_arg0) ?_)
    funext a; fin_cases a; apply Fin.ext
    show k.val + 1 * 0 = k.val; omega
  have er : ∀ k l, rowT c (V main_arg1) (wordY (ftch0 c V 0 t d0)) hw k (ix2 0 l)
      = rowE (show Vec Ideal S100000x64 .f32 from V main_arg1) ((show Vec Ideal S20 .i32 from V main_arg0) (ix1 k)) l := fun k l => by
    unfold rowE
    rw [dif_pos (e0 k ▸ hw k)]
    unfold rowT
    rw [View.read_apply]
    refine congrArg (show Vec Ideal S100000x64 .f32 from V main_arg1) ?_
    funext a; fin_cases a <;> apply Fin.ext
    · have e : (wordY (ftch0 c V 0 t d0) k).toNat = ((show Vec Ideal S20 .i32 from V main_arg0) (ix1 k) : BitVec 32).toNat := by rw [e0 k]
      exact (Nat.add_zero _).trans e
    · show 0 + 1 * l.val = l.val; omega
  rw [zV_apply]
  unfold lgV lgt hid
  rw [dif_pos hq]
  simp only [e1, e2, e3, e4, er]

theorem zrel_at (t : Fin cfg0.N) (X : Vec Ideal S1x8192 .f32) (h : ZRel c V t X) (q : Fin 8192) (hq : 8192 * t.val + q.val < 100000) :
    X (ix2 0 q) = lgV c V (8192 * t.val + q.val) := by
  obtain ⟨y0, y1, y2, y3, y4, hi, hw, rfl⟩ := h
  exact z_at c V t hi hw q hq

theorem srel_at (t : Fin cfg0.N) (X : Vec Ideal S1x8x128 .f32) (h : SRel c V t X) (u : Fin 8) (v : Fin 128) :
    X (ix3 0 u v) = if v.val = 0 then blkTop 8192 100000 (lgV c V) t.val else blkSum 8192 100000 (lgV c V) t.val := by
  obtain ⟨y0, y1, y2, y3, y4, hi, hw, rfl⟩ := h
  rw [coords0 t]
  exact stV_apply t _ _ _ _ _ (lgV c V) (fun q hq => z_at c V t hi hw q hq) u v

theorem ix5_1 : ∀ t : Fin cfg0.N, (cfg0.win 5).kind.off ((cfg0.win 5).index t (1 : Fin 2)) ((cfg0.win 5).size (1 : Fin 2)) = 8192 * t.val := by decide +kernel
theorem ix6_0 : ∀ t : Fin cfg0.N, (cfg0.win 6).kind.off ((cfg0.win 6).index t (0 : Fin 3)) ((cfg0.win 6).size (0 : Fin 3)) = t.val := by decide +kernel
theorem ix6_2 : ∀ t : Fin cfg0.N, (cfg0.win 6).kind.off ((cfg0.win 6).index t (2 : Fin 3)) ((cfg0.win 6).size (2 : Fin 3)) = 0 := by decide +kernel
theorem xs5_le : ∀ t : Fin cfg0.N, (cfg0.win 5).xsize (cfg0.grid.coords t) (1 : Fin 2) ≤ 8192 := by decide +kernel
theorem xs5_one : ∀ t : Fin cfg0.N, (cfg0.win 5).xsize (cfg0.grid.coords t) (0 : Fin 2) ≤ 1 := by decide +kernel
theorem xs6_0 : ∀ t : Fin cfg0.N, (cfg0.win 6).xsize (cfg0.grid.coords t) (0 : Fin 3) ≤ 1 := by decide +kernel
theorem xs6_1 : ∀ t : Fin cfg0.N, (cfg0.win 6).xsize (cfg0.grid.coords t) (1 : Fin 3) ≤ 8 := by decide +kernel
theorem xs6_2 : ∀ t : Fin cfg0.N, (cfg0.win 6).xsize (cfg0.grid.coords t) (2 : Fin 3) ≤ 128 := by decide +kernel

/-- The logits' array. -/
theorem z_arr {z} (h : (rd0 c V).ArrAt 5 cfg0.N z) (n : Fin 100000) :
    (show Vec Ideal S1x100000 .f32 from z) (ix2 0 n) = lgV c V n.val := by
  refine arr_forall h (fun i v => (show Elt Ideal .f32 from v) = lgV c V (show Fin 100000 from i (1 : Fin 2)).val) (by decide +kernel) (Memref.isWhole_whole _) (fun t X hX y => ?_) (ix2 0 n)
  obtain ⟨Y, -, hZ⟩ := hX
  have hZ : ZRel c V t X := hZ
  have hq : (y (1 : Fin 2)).val < 8192 := lt_of_lt_of_le (y (1 : Fin 2)).isLt (xs5_le t)
  have hy : (cfg0.win 5).xinj (cfg0.grid.coords t) y = (ix2 0 ⟨(y (1 : Fin 2)).val, hq⟩ : S1x8192.Idx) := by
    funext a; fin_cases a <;> apply Fin.ext
    · exact Nat.lt_one_iff.1 (lt_of_lt_of_le (y (0 : Fin 2)).isLt (xs5_one t))
    · rfl
  have he : (show Fin 100000 from ((cfg0.win 5).blk t).view.emb y (1 : Fin 2)).val = 8192 * t.val + (y (1 : Fin 2)).val :=
    (congrArg (_ + ·) (Nat.one_mul _)).trans (congrArg (· + (y (1 : Fin 2)).val) (ix5_1 t))
  show X ((cfg0.win 5).xinj (cfg0.grid.coords t) y) = lgV c V (show Fin 100000 from ((cfg0.win 5).blk t).view.emb y (1 : Fin 2)).val
  rw [hy, he]
  exact zrel_at c V t X hZ _ (lt_of_eq_of_lt he.symm (Fin.isLt _))

/-- The statistics' array. -/
theorem st_arr {st} (h : (rd0 c V).ArrAt 6 cfg0.N st) (t : Fin 13) (u : Fin 8) (v : Fin 128) :
    (show Vec Ideal S13x8x128 .f32 from st) (ix3 t u v)
      = if v.val = 0 then blkTop 8192 100000 (lgV c V) t.val else blkSum 8192 100000 (lgV c V) t.val := by
  refine arr_forall h (fun i x => (show Elt Ideal .f32 from x) = if (show Fin 128 from i (2 : Fin 3)).val = 0
    then blkTop 8192 100000 (lgV c V) (show Fin 13 from i (0 : Fin 3)).val else blkSum 8192 100000 (lgV c V) (show Fin 13 from i (0 : Fin 3)).val)
    (by decide +kernel) (Memref.isWhole_whole _) (fun t X hX y => ?_) (ix3 t u v)
  obtain ⟨Y, -, hZ⟩ := hX
  have hZ : SRel c V t X := hZ
  have hu : (y (1 : Fin 3)).val < 8 := lt_of_lt_of_le (y (1 : Fin 3)).isLt (xs6_1 t)
  have hv : (y (2 : Fin 3)).val < 128 := lt_of_lt_of_le (y (2 : Fin 3)).isLt (xs6_2 t)
  have h0 : (y (0 : Fin 3)).val = 0 := Nat.lt_one_iff.1 (lt_of_lt_of_le (y (0 : Fin 3)).isLt (xs6_0 t))
  have hy : (cfg0.win 6).xinj (cfg0.grid.coords t) y = (ix3 0 ⟨(y (1 : Fin 3)).val, hu⟩ ⟨(y (2 : Fin 3)).val, hv⟩ : S1x8x128.Idx) := by
    funext a; fin_cases a <;> apply Fin.ext
    · exact h0
    · rfl
    · rfl
  have e0 : (show Fin 13 from ((cfg0.win 6).blk t).view.emb y (0 : Fin 3)).val = t.val :=
    (congrArg₂ (· + ·) (ix6_0 t) ((Nat.one_mul _).trans h0)).trans (Nat.add_zero _)
  have e2 : (show Fin 128 from ((cfg0.win 6).blk t).view.emb y (2 : Fin 3)).val = (y (2 : Fin 3)).val :=
    (congrArg₂ (· + ·) (ix6_2 t) (Nat.one_mul _)).trans (Nat.zero_add _)
  show X ((cfg0.win 6).xinj (cfg0.grid.coords t) y) = if (show Fin 128 from ((cfg0.win 6).blk t).view.emb y (2 : Fin 3)).val = 0
    then blkTop 8192 100000 (lgV c V) (show Fin 13 from ((cfg0.win 6).blk t).view.emb y (0 : Fin 3)).val
    else blkSum 8192 100000 (lgV c V) (show Fin 13 from ((cfg0.win 6).blk t).view.emb y (0 : Fin 3)).val
  rw [hy, e0, e2]
  exact srel_at c V t X hZ _ _

theorem xt1_1 : ∀ t : Fin cfg1.N, (cfg1.win 1).xsize (cfg1.grid.coords t) (1 : Fin 2) = min 8192 (100000 - 8192 * t.val) := by decide +kernel
theorem xt1_0 : ∀ t : Fin cfg1.N, (cfg1.win 1).xsize (cfg1.grid.coords t) (0 : Fin 2) = 1 := by decide +kernel
theorem it1_0 : ∀ t : Fin cfg1.N, (cfg1.win 1).kind.off ((cfg1.win 1).index t (0 : Fin 2)) ((cfg1.win 1).size (0 : Fin 2)) = 0 := by decide +kernel
theorem it1_1 : ∀ t : Fin cfg1.N, (cfg1.win 1).kind.off ((cfg1.win 1).index t (1 : Fin 2)) ((cfg1.win 1).size (1 : Fin 2)) = 8192 * t.val := by decide +kernel
theorem it2_1 : ∀ t : Fin cfg1.N, (cfg1.win 2).kind.off ((cfg1.win 2).index t (1 : Fin 2)) ((cfg1.win 2).size (1 : Fin 2)) = 8192 * t.val := by decide +kernel
theorem xt2_le : ∀ t : Fin cfg1.N, (cfg1.win 2).xsize (cfg1.grid.coords t) (1 : Fin 2) ≤ 8192 := by decide +kernel
theorem xt2_one : ∀ t : Fin cfg1.N, (cfg1.win 2).xsize (cfg1.grid.coords t) (0 : Fin 2) ≤ 1 := by decide +kernel

/-- What the second kernel makes of the statistics and a logit. -/
def fin (st : Vec Ideal S13x8x128 .f32) (x : EReal) : EReal :=
  x - ((top fun t : Fin 13 => st (ix3 t 0 0))
    + Ideal.log (∑ t : Fin 13, st (ix3 t 0 1) * Ideal.exp (st (ix3 t 0 0) - top fun t : Fin 13 => st (ix3 t 0 0))))

/-- A point's block of the result, at a column of the vocabulary. -/
theorem orel_at (t : Fin cfg1.N) (X : Vec Ideal S1x8192 .f32) (h : ORel c V t X) (q : Fin 8192) (hq : 8192 * t.val + q.val < 100000) :
    X (ix2 0 q) = fin (show Vec Ideal S13x8x128 .f32 from V main_v2_1) ((show Vec Ideal S1x100000 .f32 from V main_v2_0) (ix2 0 ⟨8192 * t.val + q.val, hq⟩)) := by
  obtain ⟨d0, d1, rfl⟩ := h
  have e0 : ∀ (x : S13x8x128.Idx), ftch1 c V 0 t d0 x = (show Vec Ideal S13x8x128 .f32 from V main_v2_1) x := fun x => by
    refine ftch1_at c V 0 t d0 x x (fun a => (x a).isLt) fun a => ?_
    fin_cases a <;> exact (Nat.zero_add _).symm
  have e1 : ftch1 c V 1 t d1 (ix2 0 q) = (show Vec Ideal S1x100000 .f32 from V main_v2_0) (ix2 0 ⟨8192 * t.val + q.val, hq⟩) := by
    refine ftch1_at c V 1 t d1 _ (ix2 0 ⟨8192 * t.val + q.val, hq⟩) (fun a => ?_) fun a => ?_
    · fin_cases a
      · refine lt_of_lt_of_eq ?_ (xt1_0 t).symm; exact Nat.one_pos
      · refine lt_of_lt_of_eq ?_ (xt1_1 t).symm; show q.val < _; omega
    · fin_cases a
      · exact (congrArg (· + 0) (it1_0 t).symm)
      · exact (congrArg (· + q.val) (it1_1 t).symm)
  have s0 : ∀ k : Fin 13, (Rect.unit (s := S13x8x128) ![0, 0, 0] S13x1x1.size inb_S13x8x128_S13x1x1_0_0_0).toLoadRect.idx (ix3 k 0 0) = ix3 k 0 0 := fun k => by
    funext a; fin_cases a <;> apply Fin.ext
    · show 0 + 1 * k.val = k.val; omega
    · rfl
    · rfl
  have s1 : ∀ k : Fin 13, (Rect.unit (s := S13x8x128) ![0, 0, 1] S13x1x1.size inb_S13x8x128_S13x1x1_0_0_1).toLoadRect.idx (ix3 k 0 0) = ix3 k 0 1 := fun k => by
    funext a; fin_cases a <;> apply Fin.ext
    · show 0 + 1 * k.val = k.val; omega
    · rfl
    · rfl
  unfold outV fin
  rw [out_apply]
  simp only [s0, s1, e0, e1]

/-- The result's array. -/
theorem o_arr {o} (h : (rd1 c V).ArrAt 2 cfg1.N o) (n : Fin 100000) :
    (show Vec Ideal S1x100000 .f32 from o) (ix2 0 n)
      = fin (show Vec Ideal S13x8x128 .f32 from V main_v2_1) ((show Vec Ideal S1x100000 .f32 from V main_v2_0) (ix2 0 n)) := by
  refine arr_forall h (fun i v => (show Elt Ideal .f32 from v) = fin (show Vec Ideal S13x8x128 .f32 from V main_v2_1)
    ((show Vec Ideal S1x100000 .f32 from V main_v2_0) (ix2 0 (show Fin 100000 from i (1 : Fin 2))))) (by decide +kernel) (Memref.isWhole_whole _) (fun t X hX y => ?_) (ix2 0 n)
  obtain ⟨Y, -, hZ⟩ := hX
  have hZ : ORel c V t X := hZ
  have hq : (y (1 : Fin 2)).val < 8192 := lt_of_lt_of_le (y (1 : Fin 2)).isLt (xt2_le t)
  have hy : (cfg1.win 2).xinj (cfg1.grid.coords t) y = (ix2 0 ⟨(y (1 : Fin 2)).val, hq⟩ : S1x8192.Idx) := by
    funext a; fin_cases a <;> apply Fin.ext
    · exact Nat.lt_one_iff.1 (lt_of_lt_of_le (y (0 : Fin 2)).isLt (xt2_one t))
    · rfl
  have he : (show Fin 100000 from ((cfg1.win 2).blk t).view.emb y (1 : Fin 2)).val = 8192 * t.val + (y (1 : Fin 2)).val :=
    (congrArg (_ + ·) (Nat.one_mul _)).trans (congrArg (· + (y (1 : Fin 2)).val) (it2_1 t))
  have hlt : 8192 * t.val + (y (1 : Fin 2)).val < 100000 := lt_of_eq_of_lt he.symm (Fin.isLt _)
  show X ((cfg1.win 2).xinj (cfg1.grid.coords t) y) = fin (show Vec Ideal S13x8x128 .f32 from V main_v2_1)
    ((show Vec Ideal S1x100000 .f32 from V main_v2_0) (ix2 0 (show Fin 100000 from ((cfg1.win 2).blk t).view.emb y (1 : Fin 2))))
  rw [hy, show (show Fin 100000 from ((cfg1.win 2).blk t).view.emb y (1 : Fin 2)) = ⟨8192 * t.val + (y (1 : Fin 2)).val, hlt⟩ from Fin.ext he]
  exact orel_at c V t X hZ _ hlt

end

end Cert.Proof.Cbow
-- ==== Proof.Ref.lean ====
module

public import proofs.«01_k».proof.Proof.Value
public import proofs.«01_k».proof.Proof.Gen.ReferenceIdeal.Run
public import Idealize.ShloMosaic.Lib.Pointwise
public import Idealize.ShloMosaic.Lib.Routing.Ops
public import Idealize.ShloMosaic.Lib.StackMember

@[expose] public section

noncomputable section

namespace Cert.Proof.Cbow.Ref

open Cert.ReferenceIdeal Cert.ReferenceIdeal.Gen Idealize.ShloMosaic Idealize.ShloMosaic.TcCoe

/-! ## The reference's term, in stages -/

/-- The indices as the lookup uses them: a negative one counted from the end. -/
def idxT (I : Vec Ideal S20 .i32) : Vec Ideal S20x1 .i32 :=
  broadcastInDim S20x1 ![0] bcast_S20_S20x1_0 (select (cmpi .slt I (broadcastInDim S20 ![] bcast_S_S20 (constantI S_ 32 0#32)))
    (addi I (broadcastInDim S20 ![] bcast_S_S20 (constantI S_ 32 100000#32))) I)

/-- The rows looked up. -/
def rowsT (I : Vec Ideal S20 .i32) (E : FVec Ideal S100000x64 .f32) : FVec Ideal S20x64 .f32 :=
  select (broadcastInDim S20x64 ![0] bcast_S20_S20x64_0 (Host.reduce IntOp.andi
      (andi (cmpi .sge (idxT I) (broadcastInDim S20x1 ![] bcast_S_S20x1 (constantI S_ 32 0#32)))
        (cmpi .sle (idxT I) (broadcastInDim S20x1 ![0, 1] bcast_S1x1_S20x1_0_1 (broadcastInDim S1x1 ![1] bcast_S1_S1x1_1 (constantI S1 32 99999#32)))))
      (constantI S_ 1 1#1) reducesTo_S20x1_S20_d1 h_S_))
    (Host.gather gather_S100000x64_S20x1_S20x64_1_0_n_n_0_1_164 E (idxT I))
    (broadcastInDim S20x64 ![] bcast_S_S20x64 (constant S_ .f32 0x7FC00000#32))

/-- The logits from the rows. -/
def logitT (X : FVec Ideal S20x64 .f32) (W1 : FVec Ideal S1280x128 .f32) (b1 : FVec Ideal S128 .f32) (W2 : FVec Ideal S128x100000 .f32)
    (b2 : FVec Ideal S100000 .f32) : FVec Ideal S1x100000 .f32 :=
  addf (Host.dotGeneral dot_S1x128_S128x100000_S1x100000_1_0_0_1_n_n none (maximumf (addf
      (Host.dotGeneral dot_S1x1280_S1280x128_S1x128_1_0_0_1_n_n none (shapeCast _ X shapeCasts_S20x64_S1x1280) W1)
      (broadcastInDim S1x128 ![1] bcast_S128_S1x128_1 b1)) (broadcastInDim S1x128 ![] bcast_S_S1x128 (constant S_ .f32 0x00000000#32))) W2)
    (broadcastInDim S1x100000 ![1] bcast_S100000_S1x100000_1 b2)

/-- The logits less their maximum. -/
def shiftT (L : FVec Ideal S1x100000 .f32) : FVec Ideal S1x100000 .f32 :=
  subf L (broadcastInDim S1x100000 ![0, 1] bcast_S1x1_S1x100000_0_1 (broadcastInDim S1x1 ![0] bcast_S1_S1x1_0
    (maximumf (broadcastInDim S1 ![] bcast_S_S1 (constant S_ .f32 0xFF800000#32))
      (Host.reduce FloatOps.maximumf L (constant S_ .f32 0xFF800000#32) reducesTo_S1x100000_S1_d1 h_S_))))

/-- The logarithm of the softmax. -/
def outT (L : FVec Ideal S1x100000 .f32) : FVec Ideal S1x100000 .f32 :=
  subf (shiftT L) (broadcastInDim S1x100000 ![0, 1] bcast_S1x1_S1x100000_0_1 (Host.log (broadcastInDim S1x1 ![0] bcast_S1_S1x1_0
    (Host.reduceAdd (Host.exp (shiftT L)) (constant S_ .f32 0x00000000#32) reducesTo_S1x100000_S1_d1 h_S_))))

set_option maxRecDepth 8192 in
theorem res_eq (m : (ℓ : Loc nD τ sig) → Buf (Elt Ideal) ℓ) (c : Dev nD) :
    Cert.ReferenceIdeal.Value.res_main_v9 m c
      = outT (logitT (rowsT (m ((c.tc : Thread nD τ).loc main_arg0)) (m ((c.tc : Thread nD τ).loc main_arg1))) (m ((c.tc : Thread nD τ).loc main_arg2))
          (m ((c.tc : Thread nD τ).loc main_arg3)) (m ((c.tc : Thread nD τ).loc main_arg4)) (m ((c.tc : Thread nD τ).loc main_arg5))) := by
  unfold Cert.ReferenceIdeal.Value.res_main_v9 outT shiftT logitT rowsT idxT
  rfl

/-- An index in range is used as it is. -/
theorem idxT_apply (I : Vec Ideal S20 .i32) (hI : ∀ x, (I x : BitVec 32).toNat < 100000) (i : Fin 20) :
    idxT I (ix2 i 0) = I (ix1 i) := by
  pointwise [idxT]
  have h := hI (ix1 i)
  have e : IntOp.cmpi CmpIPredicate.slt (I (ix1 i)) 0#32 = 0#1 := by
    refine ValueIdx.eq_zero_of_ne_one fun h1 => ?_
    have h2 := IntOp.cmpi_slt.1 h1
    rw [BitVec.toInt_eq_toNat_of_lt (by omega)] at h2
    have h3 : ((I (ix1 i) : BitVec 32).toNat : ℤ) < 0 := h2
    omega
  rw [e]
  rfl

/-- A row looked up in range is the table's. -/
theorem rowsT_apply (I : Vec Ideal S20 .i32) (E : FVec Ideal S100000x64 .f32) (hI : ∀ x, (I x : BitVec 32).toNat < 100000) (i : Fin 20) (l : Fin 64) :
    rowsT I E (ix2 i l) = rowE E (I (ix1 i)) l := by
  have hx : ∀ x : S20x1.Idx, ∃ i : Fin 20, idxT I x = I (ix1 i) := fun x =>
    ⟨x 0, (congrArg (idxT I) (by
      funext a; fin_cases a
      · rfl
      · exact Fin.ext (Nat.lt_one_iff.1 (x 1).isLt))).trans (idxT_apply I hI (x 0))⟩
  have hm : Host.reduce IntOp.andi
      (andi (cmpi .sge (idxT I) (broadcastInDim S20x1 ![] bcast_S_S20x1 (constantI S_ 32 0#32)))
        (cmpi .sle (idxT I) (broadcastInDim S20x1 ![0, 1] bcast_S1x1_S20x1_0_1 (broadcastInDim S1x1 ![1] bcast_S1_S1x1_1 (constantI S1 32 99999#32)))))
      (constantI S_ 1 1#1) reducesTo_S20x1_S20_d1 h_S_ = fun _ => 1#1 := by
    funext j
    refine Host.reduce_andi_one _ _ _ _ _ rfl fun x => ?_
    obtain ⟨k, hk⟩ := hx x
    have h := hI (ix1 k)
    have ht : (I (ix1 k) : BitVec 32).toInt = ((I (ix1 k) : BitVec 32).toNat : ℤ) := BitVec.toInt_eq_toNat_of_lt (by omega)
    show IntOp.andi (IntOp.cmpi .sge (idxT I x) 0#32) (IntOp.cmpi .sle (idxT I x) 99999#32) = 1#1
    rw [hk]
    refine IntOp.andi_eq_one.2 ⟨IntOp.cmpi_sge.2 ?_, IntOp.cmpi_sle.2 ?_⟩
    · rw [ht]; show (0 : ℤ) ≤ _; omega
    · rw [ht]; show _ ≤ (99999 : ℤ); omega
  unfold rowsT rowE
  rw [hm, dif_pos (hI _)]
  show Host.gather gather_S100000x64_S20x1_S20x64_1_0_n_n_0_1_164 E (idxT I) (ix2 i l) = _
  refine Routing.gather_row gather_S100000x64_S20x1_S20x64_1_0_n_n_0_1_164 rfl rfl rfl rfl rfl E (idxT I) i l ⟨_, hI (ix1 i)⟩ ?_ (by decide)
  refine (idxT_apply I hI i).trans ?_
  exact BitVec.eq_of_toNat_eq ((BitVec.toNat_ofNat _ _).trans (Nat.mod_eq_of_lt (BitVec.isLt _))).symm

/-- The sum over the joined rows is the sum over the rows and their entries. -/
theorem sum_rows (f : Fin 20 → Fin 64 → EReal) (g : Fin 1280 → EReal) :
    ∑ k : Fin 1280, f ⟨k.val / 64, by omega⟩ ⟨k.val % 64, by omega⟩ * g k
      = ∑ i : Fin 20, ∑ l : Fin 64, f i l * g ⟨64 * i.val + l.val, by omega⟩ := by
  rw [← Equiv.sum_comp (finProdFinEquiv (m := 20) (n := 64)), Fintype.sum_prod_type]
  refine Finset.sum_congr rfl fun i _ => Finset.sum_congr rfl fun l _ => ?_
  have e : (finProdFinEquiv (i, l)).val = 64 * i.val + l.val := by simp [finProdFinEquiv, Nat.add_comm]
  have e1 : (⟨(finProdFinEquiv (i, l)).val / 64, by omega⟩ : Fin 20) = i := Fin.ext (by show (finProdFinEquiv (i, l)).val / 64 = _; omega)
  have e2 : (⟨(finProdFinEquiv (i, l)).val % 64, by omega⟩ : Fin 64) = l := Fin.ext (by show (finProdFinEquiv (i, l)).val % 64 = _; omega)
  rw [e1, e2]
  exact congrArg (fun k => f i l * g k) (Fin.ext e)

/-- The hidden layer at an index. -/
theorem hidT_apply (X : FVec Ideal S20x64 .f32) (W1 : FVec Ideal S1280x128 .f32) (b1 : FVec Ideal S128 .f32) (j : Fin 128) :
    maximumf (addf (Host.dotGeneral dot_S1x1280_S1280x128_S1x128_1_0_0_1_n_n none (shapeCast _ X shapeCasts_S20x64_S1x1280) W1)
      (broadcastInDim S1x128 ![1] bcast_S128_S1x128_1 b1)) (broadcastInDim S1x128 ![] bcast_S_S1x128 (constant S_ .f32 0x00000000#32)) (ix2 0 j)
      = max (b1 (ix1 j) + ∑ i : Fin 20, ∑ l : Fin 64, X (ix2 i l) * W1 (ix2 ⟨64 * i.val + l.val, by omega⟩ j)) 0 := by
  pointwise
  rw [sum_rows (fun i l => X (ix2 i l)) (fun k => W1 (ix2 k j)), add_comm]

/-- A product with a bias, at any width. -/
theorem lin_apply {N : ℕ} (hN : N ≠ 1) (D : DotDims ⟨2, ![1, 128]⟩ ⟨2, ![128, N]⟩ ⟨2, ![1, N]⟩) (hD : D = DotDims.plain 1 128 N)
    (hb : (⟨1, ![N]⟩ : Shape).BroadcastsInDim ⟨2, ![1, N]⟩ (![1] : Fin 1 → Fin 2)) (H : FVec Ideal ⟨2, ![1, 128]⟩ .f32)
    (W2 : FVec Ideal ⟨2, ![128, N]⟩ .f32) (b2 : FVec Ideal ⟨1, ![N]⟩ .f32) (n : Fin N) :
    addf (Host.dotGeneral D none H W2) (broadcastInDim ⟨2, ![1, N]⟩ ![1] hb b2) (ix2 0 n)
      = (∑ j : Fin 128, H (ix2 0 j) * W2 (ix2 j n)) + b2 (ix1 n) := by
  subst hD
  refine (ValueIdx.addf_apply _ _ _).trans (congrArg₂ (fun x y : EReal => x + y) (StackMember.dotGeneral_plain_apply none H W2 0 n) (congrArg b2 (funext fun a => ?_)))
  fin_cases a
  exact dif_neg hN

/-- The logarithm of the softmax, at any width. -/
theorem out_gen {N : ℕ} (h11 : (⟨2, ![1, 1]⟩ : Shape).BroadcastsInDim ⟨2, ![1, N]⟩ (![0, 1] : Fin 2 → Fin 2))
    (h1 : (⟨1, ![1]⟩ : Shape).BroadcastsInDim ⟨2, ![1, 1]⟩ (![0] : Fin 1 → Fin 2))
    (h0 : (⟨0, ![]⟩ : Shape).BroadcastsInDim ⟨1, ![1]⟩ (![] : Fin 0 → Fin 1))
    (hr : (⟨2, ![1, N]⟩ : Shape).ReducesTo [1] ⟨1, ![1]⟩) (hu : 0 < (⟨0, ![]⟩ : Shape).numel)
    (L X : FVec Ideal ⟨2, ![1, N]⟩ .f32)
    (hX : X = subf L (broadcastInDim ⟨2, ![1, N]⟩ ![0, 1] h11 (broadcastInDim ⟨2, ![1, 1]⟩ ![0] h1
    (maximumf (broadcastInDim ⟨1, ![1]⟩ ![] h0 (constant ⟨0, ![]⟩ .f32 0xFF800000#32))
      (Host.reduce FloatOps.maximumf L (constant ⟨0, ![]⟩ .f32 0xFF800000#32) hr hu))))) (n : Fin N) :
    subf X (broadcastInDim ⟨2, ![1, N]⟩ ![0, 1] h11 (Host.log (broadcastInDim ⟨2, ![1, 1]⟩ ![0] h1
      (Host.reduceAdd (Host.exp X) (constant ⟨0, ![]⟩ .f32 0x00000000#32) hr hu)))) (ix2 0 n)
      = (L (ix2 0 n) - top fun i : Fin N => L (ix2 0 i))
        - Ideal.log (∑ i : Fin N, Ideal.exp (L (ix2 0 i) - top fun i : Fin N => L (ix2 0 i))) := by
  have e : ∀ i : Fin N, X (ix2 0 i) = L (ix2 0 i) - top fun i : Fin N => L (ix2 0 i) := fun i => by
    rw [hX]
    pointwise
    rw [ofBits_neg_inf, max_eq_right bot_le]
    rfl
  pointwise
  simp only [e]

theorem logitT_apply (X : FVec Ideal S20x64 .f32) (W1 : FVec Ideal S1280x128 .f32) (b1 : FVec Ideal S128 .f32) (W2 : FVec Ideal S128x100000 .f32)
    (b2 : FVec Ideal S100000 .f32) (n : Fin 100000) :
    logitT X W1 b1 W2 b2 (ix2 0 n)
      = (∑ j : Fin 128, max (b1 (ix1 j) + ∑ i : Fin 20, ∑ l : Fin 64, X (ix2 i l) * W1 (ix2 ⟨64 * i.val + l.val, by omega⟩ j)) 0 * W2 (ix2 j n)) + b2 (ix1 n) := by
  unfold logitT
  refine (lin_apply (by omega) _ rfl _ _ _ _ n).trans ?_
  exact congrArg (· + b2 (ix1 n)) (Finset.sum_congr rfl fun j _ => congrArg (fun x : EReal => x * W2 (ix2 j n)) (hidT_apply X W1 b1 j))

theorem outT_apply (L : FVec Ideal S1x100000 .f32) (n : Fin 100000) :
    outT L (ix2 0 n) = (L (ix2 0 n) - top fun i : Fin 100000 => L (ix2 0 i))
      - Ideal.log (∑ i : Fin 100000, Ideal.exp (L (ix2 0 i) - top fun i : Fin 100000 => L (ix2 0 i))) := by
  unfold outT
  exact out_gen _ _ _ _ _ L _ rfl n

end Cert.Proof.Cbow.Ref
-- ==== Proof.Final.lean ====
module

public import proofs.«01_k».proof.Proof.Arr
public import proofs.«01_k».proof.Proof.Ref
public import proofs.«01_k».proof.Proof.Run
public import Idealize.ShloMosaic.Lib.Claim

@[expose] public section

noncomputable section

namespace Cert.Proof.Cbow

open Idealize.ShloMosaic Idealize.ShloMosaic.TcCoe
open Cert.Kernel Cert.Kernel.Gen

/-! ## Real arguments give real logits -/

/-- A value that is a real number. -/
def IsReal (x : EReal) : Prop := ∃ r : ℝ, x = r

theorem IsReal.zero : IsReal 0 := ⟨0, rfl⟩
theorem IsReal.add {x y : EReal} : IsReal x → IsReal y → IsReal (x + y)
  | ⟨a, ha⟩, ⟨b, hb⟩ => ⟨a + b, by rw [ha, hb, EReal.coe_add]⟩
theorem IsReal.mul {x y : EReal} : IsReal x → IsReal y → IsReal (x * y)
  | ⟨a, ha⟩, ⟨b, hb⟩ => ⟨a * b, by rw [ha, hb, EReal.coe_mul]⟩
theorem IsReal.max {x y : EReal} (hx : IsReal x) (hy : IsReal y) : IsReal (Max.max x y) := by
  rcases max_choice x y with h | h <;> rw [h] <;> assumption
theorem IsReal.sum {ι : Type} [Fintype ι] {f : ι → EReal} (h : ∀ i, IsReal (f i)) : IsReal (∑ i, f i) :=
  Finset.sum_induction f IsReal (fun _ _ => IsReal.add) IsReal.zero fun i _ => h i

theorem lgt_real {I : Vec Ideal S20 .i32} {E : Vec Ideal S100000x64 .f32} {W1 : Vec Ideal S1280x128 .f32} {b1 : Fin 128 → EReal}
    {W2 : Vec Ideal S128x100000 .f32} {b2 : Fin 100000 → EReal}
    (hE : ∀ x, IsReal (E x)) (hW1 : ∀ x, IsReal (W1 x)) (hb1 : ∀ j, IsReal (b1 j)) (hW2 : ∀ x, IsReal (W2 x)) (hb2 : ∀ n, IsReal (b2 n)) (n : ℕ) :
    IsReal (lgt I E W1 b1 W2 b2 n) := by
  have hr : ∀ w l, IsReal (rowE E w l) := fun w l => by
    unfold rowE; split
    · exact hE _
    · exact .zero
  unfold lgt hid
  split
  · exact (IsReal.sum fun j => (((hb1 j).add (.sum fun i => .sum fun l => (hr _ _).mul (hW1 _))).max .zero).mul (hW2 _)).add (hb2 _)
  · exact .zero

/-! ## What the kernel leaves, from the launch -/

variable (m : (ℓ : Loc nD τ sig) → Buf (Elt Ideal) ℓ)

/-- The logits, from what was launched. -/
def lgM (c : Dev nD) : ℕ → EReal :=
  lgt (show Vec Ideal S20 .i32 from m ((c.tc : Thread nD τ).loc main_arg0)) (show Vec Ideal S100000x64 .f32 from m ((c.tc : Thread nD τ).loc main_arg1))
    (show Vec Ideal S1280x128 .f32 from m ((c.tc : Thread nD τ).loc main_arg2)) (fun j => (show Vec Ideal S128 .f32 from m ((c.tc : Thread nD τ).loc main_arg3)) (ix1 j))
    (show Vec Ideal S128x100000 .f32 from m ((c.tc : Thread nD τ).loc main_arg4)) (fun n => (show Vec Ideal S100000 .f32 from m ((c.tc : Thread nD τ).loc main_arg5)) (ix1 n))

theorem v0_eq (c : Dev nD) : Ve m c main_v0 = shapeCast S1x128 (show Vec Ideal S128 .f32 from m ((c.tc : Thread nD τ).loc main_arg3)) shapeCasts_S128_S1x128 := by
  show StableHlo.after hostOps0 (V0 m c) _ = _
  entry_read
  rfl

theorem v1_eq (c : Dev nD) : Ve m c main_v1 = shapeCast S1x100000 (show Vec Ideal S100000 .f32 from m ((c.tc : Thread nD τ).loc main_arg5)) shapeCasts_S100000_S1x100000 := by
  show StableHlo.after hostOps0 (V0 m c) _ = _
  entry_read
  rfl

/-- A vector laid out as one row, at any width. -/
theorem row_cast {N : ℕ} (x : Vec Ideal ⟨1, ![N]⟩ .f32) (h : (⟨1, ![N]⟩ : Shape).ShapeCasts ⟨2, ![1, N]⟩) (n : Fin N) :
    shapeCast ⟨2, ![1, N]⟩ x h (ix2 0 n) = x (ix1 n) := by
  refine (shapeCast_addUnit_apply ![N] x h (ix2 0 n)).trans (congrArg x (funext fun a => ?_))
  fin_cases a
  rfl

theorem lgV_eq (c : Dev nD) : lgV c (Ve m c) = lgM m c := by
  funext n
  unfold lgV lgM
  rw [show Ve m c main_arg0 = m ((c.tc : Thread nD τ).loc main_arg0) from V1_of m c main_arg0 (by decide),
    show Ve m c main_arg1 = m ((c.tc : Thread nD τ).loc main_arg1) from V1_of m c main_arg1 (by decide),
    show Ve m c main_arg2 = m ((c.tc : Thread nD τ).loc main_arg2) from V1_of m c main_arg2 (by decide),
    show Ve m c main_arg4 = m ((c.tc : Thread nD τ).loc main_arg4) from V1_of m c main_arg4 (by decide), v0_eq, v1_eq]
  exact congrArg₂ (fun a b => lgt _ _ _ a _ b n) (funext fun j => row_cast _ _ j) (funext fun j => row_cast _ _ j)

/-- The result, entry by entry. -/
theorem left_apply (c : Dev nD) {o} (h : Left m c o) (hL : ∀ n, IsReal (lgM m c n)) (n : Fin 100000) :
    (show Vec Ideal S1x100000 .f32 from o) (ix2 0 n)
      = (lgM m c n.val - top fun i : Fin 100000 => lgM m c i.val)
        - Ideal.log (∑ i : Fin 100000, Ideal.exp (lgM m c i.val - top fun i : Fin 100000 => lgM m c i.val)) := by
  obtain ⟨z, st, hz, hst, ho⟩ := h
  have hs : ∀ t v, (show Vec Ideal S13x8x128 .f32 from Vz m c z st main_v2_1) (ix3 t 0 v)
      = if v.val = 0 then blkTop 8192 100000 (lgM m c) t.val else blkSum 8192 100000 (lgM m c) t.val := fun t v => by
    rw [Vz_st, ← lgV_eq]; exact st_arr c _ hst t 0 v
  have hz' : (show Vec Ideal S1x100000 .f32 from Vz m c z st main_v2_0) (ix2 0 n) = lgM m c n.val := by
    rw [Vz_z, ← lgV_eq]; exact z_arr c _ hz n
  refine (o_arr c _ ho n).trans ?_
  unfold fin
  simp only [hs, hz']
  exact logSoftmax_blocks 13 8192 100000 (by omega) (fun t ht => by omega) (by omega) (by omega) (lgM m c) (fun n _ => hL n) n.val n.isLt

/-- The reference's result, entry by entry, from the same launch. -/
theorem ref_apply (m' : (ℓ : Loc Cert.ReferenceIdeal.nD Cert.ReferenceIdeal.τ Cert.ReferenceIdeal.sig) → Buf (Elt Ideal) ℓ) (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5))
    (hI : ∀ x, ((show Vec Ideal S20 .i32 from m ((c.tc : Thread nD τ).loc main_arg0)) x : BitVec 32).toNat < 100000) (n : Fin 100000) :
    (show Vec Ideal S1x100000 .f32 from Cert.ReferenceIdeal.Value.res_main_v9 m' c) (ix2 0 n)
      = (lgM m c n.val - top fun i : Fin 100000 => lgM m c i.val)
        - Ideal.log (∑ i : Fin 100000, Ideal.exp (lgM m c i.val - top fun i : Fin 100000 => lgM m c i.val)) := by
  rw [Ref.res_eq, h0, h1, h2, h3, h4, h5]
  have hl : ∀ n : Fin 100000, Ref.logitT (Ref.rowsT (m ((c.tc : Thread nD τ).loc main_arg0)) (m ((c.tc : Thread nD τ).loc main_arg1)))
      (m ((c.tc : Thread nD τ).loc main_arg2)) (m ((c.tc : Thread nD τ).loc main_arg3)) (m ((c.tc : Thread nD τ).loc main_arg4))
      (m ((c.tc : Thread nD τ).loc main_arg5)) (ix2 0 n) = lgM m c n.val := fun n => by
    refine (Ref.logitT_apply _ _ _ _ _ n).trans ?_
    unfold lgM lgt hid
    rw [dif_pos n.isLt]
    simp only [Ref.rowsT_apply _ _ hI]
  refine (Ref.outT_apply _ n).trans ?_
  simp only [hl]

/-- An array of one row, entry by entry. -/
theorem row_ext {x y : Vec Ideal S1x100000 .f32} (h : ∀ n : Fin 100000, x (ix2 0 n) = y (ix2 0 n)) : x = y := by
  funext i
  have e : i = (ix2 0 (i 1) : S1x100000.Idx) := by
    funext a; fin_cases a
    · exact Fin.ext (Nat.lt_one_iff.1 (i 0).isLt)
    · rfl
  rw [e]
  exact h _

end Cert.Proof.Cbow
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_range
public import proofs.«01_k».proof.Proof.Run
public import proofs.«01_k».proof.Proof.Tr
public import proofs.«01_k».proof.Proof.Pre
public import proofs.«01_k».proof.Proof.Final
public import Idealize.ShloMosaic.Lib.Quiescent
public import Idealize.ShloMosaic.Adequacy
public import Idealize.ShloMosaic.Init

@[expose] public section

noncomputable section

namespace Cert.Proof

open Idealize.ShloMosaic Idealize.SL.Sem Cert.Kernel
open Cbow

/-- Where the staged index array is in range: the region reads what was launched. -/
theorem idx_lt {F : FTy → Type} [FloatOps F] (m : (ℓ : Loc nD τ sig) → Buf (Elt F) ℓ)
    (h : ∀ (c : Dev nD) x, ((show Vec F S20 .i32 from m ((c.tc : Thread nD τ).loc main_arg0)) x : BitVec 32).toNat < 100000) (c : Dev nD) (x) :
    ((show Vec F S20 .i32 from Ve m c main_arg0) x : BitVec 32).toNat < 100000 := by
  have e : Ve m c main_arg0 = m ((c.tc : Thread nD τ).loc main_arg0) := Cert.Kernel.Gen.V1_of m c main_arg0 (by decide)
  rw [e]
  exact h c x

theorem frame_kernel : Cert.quiescent_Kernel := fun m g h =>
  (θ_run _ _ _).mono (fun _ hr => ⟨fun c => (hr.1 c).1, hr.2⟩) (run_main m g (idx_lt m fun c => Pre.in_range _ _ _ _ _ _ (h c)))

theorem frame_kernelIdeal : Cert.quiescent_KernelIdeal := fun m g h => by
  rw [defs_eq]
  exact (θ_run _ _ _).mono (fun _ hr => ⟨fun c => (hr.1 c).1, hr.2⟩) (run_main m g (idx_lt m fun c => Pre.in_range _ _ _ _ _ _ (h c)))

theorem frame_reference : Cert.quiescent_ReferenceIdeal := fun m g _ =>
  (θ_run _ _ _).mono (fun r hr => ⟨fun c => (hr c).2, sem_eq_zero_of_no_sems (by decide) r.2⟩) (Cert.ReferenceIdeal.Value.run (F := Ideal) m g)

theorem frame_kernelIdeal_finite : Cert.quiescent_KernelIdeal_pre_finite_in_range := fun m g h => by
  rw [defs_eq]
  exact (θ_run _ _ _).mono (fun _ hr => ⟨fun c => (hr.1 c).1, hr.2⟩) (run_main m g (idx_lt m fun c => (Pre.finite_in_range _ _ _ _ _ _ (h c)).1))

theorem frame_reference_finite : Cert.quiescent_ReferenceIdeal_pre_finite_in_range := fun m g _ =>
  (θ_run _ _ _).mono (fun r hr => ⟨fun c => (hr c).2, sem_eq_zero_of_no_sems (by decide) r.2⟩) (Cert.ReferenceIdeal.Value.run (F := Ideal) m g)

/-- On real arguments with the indices in range, the kernel leaves what the reference leaves. -/
theorem value : Cert.algebraic_KernelIdeal_ReferenceIdeal_pre_finite_in_range := fun m g m' g' h ha => by
  refine ⟨fun c => Cert.ReferenceIdeal.Value.res_main_v9 m' c, ?_, Cert.ReferenceIdeal.Value.run (F := Ideal) m' g'⟩
  rw [defs_eq]
  have hf := fun c => Pre.finite_in_range _ _ _ _ _ _ (h c)
  refine (θ_run _ _ _).mono (fun _ hr c => ⟨?_, (hr.1 c).1⟩) (run_main m g (idx_lt m fun c => (hf c).1))
  obtain ⟨hI, hE, hW1, hb1, hW2, hb2⟩ := hf c
  obtain ⟨h0, h1, h2, h3, h4, h5⟩ := ha c
  exact row_ext fun n => (left_apply m c (hr.1 c).2 (lgt_real hE hW1 (fun j => hb1 _) hW2 (fun j => hb2 _)) n).trans
    (ref_apply m m' c h0 h1 h2 h3 h4 h5 hI n).symm

theorem claim : Cert.Claim := ⟨Cert.Kernel.Gen.facts, Cert.KernelIdeal.Gen.facts, Cert.ReferenceIdeal.Gen.facts, Cert.Pre_in_range.Gen.facts, Pre.facts,
  frame_kernel, frame_kernelIdeal, frame_kernelIdeal_finite, frame_reference, frame_reference_finite, trivial, value⟩

end Cert.Proof

end
